-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1x2048 : Shape := ⟨3, ![8, 1, 2048]⟩
abbrev S256x1x3 : Shape := ⟨3, ![256, 1, 3]⟩
abbrev S256 : Shape := ⟨1, ![256]⟩
abbrev S1x256x3 : Shape := ⟨3, ![1, 256, 3]⟩
abbrev S1 : Shape := ⟨1, ![1]⟩
abbrev S8x1024x256 : Shape := ⟨3, ![8, 1024, 256]⟩
abbrev S_ : Shape := ⟨0, ![]⟩

class Facts : Prop where
  bcast_S_S8x1x2048 : S_.BroadcastsInDim S8x1x2048 (![] : Fin 0 → Fin S8x1x2048.rank)
  reducesTo_S8x1x2048_S_d0_1_2 : S8x1x2048.ReducesTo [0, 1, 2] S_
  h_S_ : 0 < S_.numel
  bcast_S_S256x1x3 : S_.BroadcastsInDim S256x1x3 (![] : Fin 0 → Fin S256x1x3.rank)
  reducesTo_S256x1x3_S_d0_1_2 : S256x1x3.ReducesTo [0, 1, 2] S_
  bcast_S_S256 : S_.BroadcastsInDim S256 (![] : Fin 0 → Fin S256.rank)
  reducesTo_S256_S_d0 : S256.ReducesTo [0] S_
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn_part1 {F : FTy → Type} [FloatOps F] (main_v13 : IVec S_ 1) (main_v16 : IVec S8x1024x256 1) : IVec S_ 1 :=
  let main_c_5 : IVec S_ 1 := constantI S_ 1 1#1
  let main_v17 : IVec S_ 1 := (fun x v => Host.reduce IntOp.andi x v reducesTo_S8x1024x256_S_d0_1_2 h_S_) main_v16 main_c_5
  let main_v18 : IVec S_ 1 := andi main_v13 main_v17
  main_v18

def fn {F : FTy → Type} [FloatOps F] (main_arg0 : FVec F S8x1x2048 .f32) (main_arg1 : FVec F S256x1x3 .f32) (main_arg2 : FVec F S256 .f32) (main_arg3 : FVec F S1x256x3 .f32) (main_arg4 : FVec F S1 .f32) (main_arg5 : FVec F S8x1024x256 .f32) : IVec S_ 1 :=
  let main_v0 : FVec F S8x1x2048 .f32 := Host.absf main_arg0
  let main_cst : FVec F S_ .f32 := constant S_ .f32 0x7F800000#32
  let main_v1 : FVec F S8x1x2048 .f32 := broadcastInDim S8x1x2048 ![] bcast_S_S8x1x2048 main_cst
  let main_v2 : IVec S8x1x2048 1 := cmpf .olt main_v0 main_v1
  let main_c : IVec S_ 1 := constantI S_ 1 1#1
  let main_v3 : IVec S_ 1 := (fun x v => Host.reduce IntOp.andi x v reducesTo_S8x1x2048_S_d0_1_2 h_S_) main_v2 main_c
  let main_v4 : FVec F S256x1x3 .f32 := Host.absf main_arg1
  let main_cst_0 : FVec F S_ .f32 := constant S_ .f32 0x7F800000#32
  let main_v5 : FVec F S256x1x3 .f32 := broadcastInDim S256x1x3 ![] bcast_S_S256x1x3 main_cst_0
  let main_v6 : IVec S256x1x3 1 := cmpf .olt main_v4 main_v5
  let main_c_1 : IVec S_ 1 := constantI S_ 1 1#1
  let main_v7 : IVec S_ 1 := (fun x v => Host.reduce IntOp.andi x v reducesTo_S256x1x3_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x1024x256 .f32 := Host.absf main_arg5
  let main_cst_4 : FVec F S_ .f32 := constant S_ .f32 0x7F800000#32
  let main_v15 : FVec F S8x1024x256 .f32 := broadcastInDim S8x1024x256 ![] bcast_S_S8x1024x256 main_cst_4
  let main_v16 : IVec S8x1024x256 1 := cmpf .olt main_v14 main_v15
  fn_part1 (F := F) main_v13 main_v16
-- ==== Kernel.lean ====
abbrev S8x1x2048 : Shape := ⟨3, ![8, 1, 2048]⟩
abbrev S256x1x3 : Shape := ⟨3, ![256, 1, 3]⟩
abbrev S256 : Shape := ⟨1, ![256]⟩
abbrev S1x256x3 : Shape := ⟨3, ![1, 256, 3]⟩
abbrev S1 : Shape := ⟨1, ![1]⟩
abbrev S8x1024x256 : Shape := ⟨3, ![8, 1024, 256]⟩
abbrev S8x2048 : Shape := ⟨2, ![8, 2048]⟩
abbrev S8x2047 : Shape := ⟨2, ![8, 2047]⟩
abbrev S_ : Shape := ⟨0, ![]⟩
abbrev S8x2048x1 : Shape := ⟨3, ![8, 2048, 1]⟩
abbrev S8x2048x3 : Shape := ⟨3, ![8, 2048, 3]⟩
abbrev S16384x3 : Shape := ⟨2, ![16384, 3]⟩
abbrev S256x3 : Shape := ⟨2, ![256, 3]⟩
abbrev S3x256 : Shape := ⟨2, ![3, 256]⟩
abbrev S1x256 : Shape := ⟨2, ![1, 256]⟩
abbrev S8x256x1024 : Shape := ⟨3, ![8, 256, 1024]⟩
abbrev S8x1x1 : Shape := ⟨3, ![8, 1, 1]⟩
abbrev S8x2047x1 : Shape := ⟨3, ![8, 2047, 1]⟩
abbrev S1x1x1 : Shape := ⟨3, ![1, 1, 1]⟩
abbrev S2048x3 : Shape := ⟨2, ![2048, 3]⟩
abbrev S2048x256 : Shape := ⟨2, ![2048, 256]⟩
abbrev S1x1 : Shape := ⟨2, ![1, 1]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩
abbrev S1x1024x256 : Shape := ⟨3, ![1, 1024, 256]⟩
abbrev S1024 : Shape := ⟨1, ![1024]⟩
abbrev S1x1024 : Shape := ⟨2, ![1, 1024]⟩
abbrev S1024x1 : Shape := ⟨2, ![1024, 1]⟩

abbrev nBuf : Space → Nat
  | .hbm => 53
  | .vmem => 11
  | .smem => 0
  | _ => 0

abbrev bufTy : (tb : Table) → Fin (tcTables nBuf tb) → BufTy
  | .hbm, ⟨0, _⟩ => ⟨S8x1x2048, .f32⟩
  | .hbm, ⟨1, _⟩ => ⟨S256x1x3, .f32⟩
  | .hbm, ⟨2, _⟩ => ⟨S256, .f32⟩
  | .hbm, ⟨3, _⟩ => ⟨S1x256x3, .f32⟩
  | .hbm, ⟨4, _⟩ => ⟨S1, .f32⟩
  | .hbm, ⟨5, _⟩ => ⟨S8x1024x256, .f32⟩
  | .hbm, ⟨6, _⟩ => ⟨S8x2048, .f32⟩
  | .hbm, ⟨7, _⟩ => ⟨S8x2047, .f32⟩
  | .hbm, ⟨8, _⟩ => ⟨S_, .i32⟩
  | .hbm, ⟨9, _⟩ => ⟨S_, .f32⟩
  | .hbm, ⟨10, _⟩ => ⟨S8x2048, .f32⟩
  | .hbm, ⟨11, _⟩ => ⟨S8x2047, .f32⟩
  | .hbm, ⟨12, _⟩ => ⟨S_, .i32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x3, .f32⟩
  | .hbm, ⟨19, _⟩ => ⟨S16384x3, .f32⟩
  | .hbm, ⟨20, _⟩ => ⟨S256x3, .f32⟩
  | .hbm, ⟨21, _⟩ => ⟨S3x256, .f32⟩
  | .hbm, ⟨22, _⟩ => ⟨S1x256, .f32⟩
  | .hbm, ⟨23, _⟩ => ⟨S256x3, .f32⟩
  | .hbm, ⟨24, _⟩ => ⟨S8x256x1024, .f32⟩
  | .hbm, ⟨25, _⟩ => ⟨S_, .f32⟩
  | .hbm, ⟨26, _⟩ => ⟨S8x256x1024, .f32⟩
  | .hbm, ⟨27, _⟩ => ⟨S8x256x1024, .f32⟩
  | .hbm, ⟨28, _⟩ => ⟨S16384x3, .f32⟩
  | .hbm, ⟨29, _⟩ => ⟨S8x1x1, .f32⟩
  | .hbm, ⟨30, _⟩ => ⟨S8x2048x3, .f32⟩
  | .hbm, ⟨31, _⟩ => ⟨S8x2048x1, .f32⟩
  | .hbm, ⟨32, _⟩ => ⟨S8x2048, .f32⟩
  | .hbm, ⟨33, _⟩ => ⟨S8x2047x1, .f32⟩
  | .hbm, ⟨34, _⟩ => ⟨S8x2047, .f32⟩
  | .hbm, ⟨35, _⟩ => ⟨S_, .i32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2047x1, .f32⟩
  | .hbm, ⟨40, _⟩ => ⟨S8x2047, .f32⟩
  | .hbm, ⟨41, _⟩ => ⟨S_, .i32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x1x2048, .f32⟩
  | .hbm, ⟨46, _⟩ => ⟨S1x1x1, .f32⟩
  | .hbm, ⟨47, _⟩ => ⟨S8x1x2048, .f32⟩
  | .hbm, ⟨48, _⟩ => ⟨S8x1x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S3x256, .f32⟩
  | .local _ .vmem, ⟨3, _⟩ => ⟨S1x256, .f32⟩
  | .local _ .vmem, ⟨4, _⟩ => ⟨S256x3, .f32⟩
  | .local _ .vmem, ⟨5, _⟩ => ⟨S8x256x1024, .f32⟩
  | .local _ .vmem, ⟨6, _⟩ => ⟨S8x1024x256, .f32⟩
  | .local _ .vmem, ⟨7, _⟩ => ⟨S2048x3, .f32⟩
  | .local _ .vmem, ⟨8, _⟩ => ⟨S2048x3, .f32⟩
  | .local _ .vmem, ⟨9, _⟩ => ⟨S1x1x1, .f32⟩
  | .local _ .vmem, ⟨10, _⟩ => ⟨S1x1x1, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_call0_v0 : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_call0_v16 : Ref sig .tc := ⟨.hbm, 27, rfl⟩
abbrev main_call0_v17_0 : Ref sig .tc := ⟨.hbm, 28, rfl⟩
abbrev main_call0_v17_1 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_c_1 : Ref sig .tc := ⟨.hbm, 35, rfl⟩
abbrev main_call0_call2_v0 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_c_2 : Ref sig .tc := ⟨.hbm, 41, rfl⟩
abbrev main_call0_call3_v0 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_v0_0 : Ref sig .tc := ⟨.hbm, 48, rfl⟩
abbrev main_call0_cst_3 : Ref sig .tc := ⟨.hbm, 49, rfl⟩
abbrev main_call0_v33 : Ref sig .tc := ⟨.hbm, 50, rfl⟩
abbrev main_call0_cst_4 : Ref sig .tc := ⟨.hbm, 51, rfl⟩
abbrev main_v0_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x1x2048 : Shape := ⟨3, ![8, 1, 2048]⟩
abbrev S256x1x3 : Shape := ⟨3, ![256, 1, 3]⟩
abbrev S256 : Shape := ⟨1, ![256]⟩
abbrev S1x256x3 : Shape := ⟨3, ![1, 256, 3]⟩
abbrev S1 : Shape := ⟨1, ![1]⟩
abbrev S8x1024x256 : Shape := ⟨3, ![8, 1024, 256]⟩
abbrev S_ : Shape := ⟨0, ![]⟩
abbrev S8x1x2050 : Shape := ⟨3, ![8, 1, 2050]⟩
abbrev S256x1x1 : Shape := ⟨3, ![256, 1, 1]⟩
abbrev S256x1 : Shape := ⟨2, ![256, 1]⟩
abbrev S256x8x2048 : Shape := ⟨3, ![256, 8, 2048]⟩
abbrev S8x256x2048 : Shape := ⟨3, ![8, 256, 2048]⟩
abbrev S1x256x1 : Shape := ⟨3, ![1, 256, 1]⟩
abbrev S8x2048x256 : Shape := ⟨3, ![8, 2048, 256]⟩
abbrev S1x1024x256 : Shape := ⟨3, ![1, 1024, 256]⟩
abbrev S1024x256 : Shape := ⟨2, ![1024, 256]⟩
abbrev S8x2048 : Shape := ⟨2, ![8, 2048]⟩
abbrev S8x2048x1 : Shape := ⟨3, ![8, 2048, 1]⟩
abbrev S256x1024 : Shape := ⟨2, ![256, 1024]⟩
abbrev S8x2048x1024 : Shape := ⟨3, ![8, 2048, 1024]⟩
abbrev S1024 : Shape := ⟨1, ![1024]⟩
abbrev S1x1x1024 : Shape := ⟨3, ![1, 1, 1024]⟩
abbrev S1x1x1 : Shape := ⟨3, ![1, 1, 1]⟩
abbrev S8x256x2050 : Shape := ⟨3, ![8, 256, 2050]⟩
abbrev S1x256 : Shape := ⟨2, ![1, 256]⟩
abbrev S1x8x2048 : Shape := ⟨3, ![1, 8, 2048]⟩

abbrev nBuf : Space → Nat
  | .hbm => 529
  | .vmem => 0
  | .smem => 0
  | _ => 0

abbrev hbmTy0_0 (i : Nat) : BufTy := match i % 128 with
  | 0 => ⟨S8x1x2048, .f32⟩
  | 1 => ⟨S256x1x3, .f32⟩
  | 2 => ⟨S256, .f32⟩
  | 3 => ⟨S1x256x3, .f32⟩
  | 4 => ⟨S1, .f32⟩
  | 5 => ⟨S8x1024x256, .f32⟩
  | 6 => ⟨S_, .i32⟩
  | 7 => ⟨S_, .f32⟩
  | 8 => ⟨S8x1x2050, .f32⟩
  | 9 => ⟨S8x1x2048, .f32⟩
  | 10 => ⟨S256x1x1, .f32⟩
  | 11 => ⟨S256x1, .f32⟩
  | 12 => ⟨S256x8x2048, .f32⟩
  | 13 => ⟨S8x256x2048, .f32⟩
  | 14 => ⟨S_, .f32⟩
  | 15 => ⟨S8x256x2048, .f32⟩
  | 16 => ⟨S8x256x2048, .f32⟩
  | 17 => ⟨S8x1x2048, .f32⟩
  | 18 => ⟨S256x1x1, .f32⟩
  | 19 => ⟨S256x1, .f32⟩
  | 20 => ⟨S256x8x2048, .f32⟩
  | 21 => ⟨S8x256x2048, .f32⟩
  | 22 => ⟨S8x256x2048, .f32⟩
  | 23 => ⟨S8x1x2048, .f32⟩
  | 24 => ⟨S256x1x1, .f32⟩
  | 25 => ⟨S256x1, .f32⟩
  | 26 => ⟨S256x8x2048, .f32⟩
  | 27 => ⟨S8x256x2048, .f32⟩
  | 28 => ⟨S8x256x2048, .f32⟩
  | 29 => ⟨S1x256x1, .f32⟩
  | 30 => ⟨S8x256x2048, .f32⟩
  | 31 => ⟨S8x256x2048, .f32⟩
  | 32 => ⟨S8x2048x256, .f32⟩
  | 33 => ⟨S_, .f32⟩
  | 34 => ⟨S8x2048x256, .f32⟩
  | 35 => ⟨S1x1024x256, .f32⟩
  | 36 => ⟨S1024x256, .f32⟩
  | 37 => ⟨S_, .f32⟩
  | 38 => ⟨S8x2048x256, .f32⟩
  | 39 => ⟨S_, .f32⟩
  | 40 => ⟨S8x2048, .f32⟩
  | 41 => ⟨S8x2048x1, .f32⟩
  | 42 => ⟨S_, .f32⟩
  | 43 => ⟨S8x2048x256, .f32⟩
  | 44 => ⟨S8x2048x256, .f32⟩
  | 45 => ⟨S256x1024, .f32⟩
  | 46 => ⟨S8x2048x1024, .f32⟩
  | 47 => ⟨S8x2048x1024, .f32⟩
  | 48 => ⟨S8x2048x1024, .f32⟩
  | 49 => ⟨S1024x256, .f32⟩
  | 50 => ⟨S_, .f32⟩
  | 51 => ⟨S1024, .f32⟩
  | 52 => ⟨S1x1x1024, .f32⟩
  | 53 => ⟨S8x2048x1024, .f32⟩
  | 54 => ⟨S8x2048x1024, .f32⟩
  | 55 => ⟨S8x2048x1024, .i32⟩
  | 56 => ⟨S_, .f32⟩
  | 57 => ⟨S_, .i32⟩
  | 58 => ⟨S8x2048, .f32⟩
  | 59 => ⟨S8x2048, .i32⟩
  | 60 => ⟨S_, .i32⟩
  | 61 => ⟨S8x2048, .i32⟩
  | 62 => ⟨S8x2048, .i1⟩
  | 63 => ⟨S_, .i32⟩
  | 64 => ⟨S8x2048, .i32⟩
  | 65 => ⟨S8x2048, .i32⟩
  | 66 => ⟨S8x2048, .i32⟩
  | 67 => ⟨S8x2048x1, .i32⟩
  | 68 => ⟨S1, .i32⟩
  | 69 => ⟨S_, .i32⟩
  | 70 => ⟨S8x2048x1, .i32⟩
  | 71 => ⟨S8x2048x1, .i1⟩
  | 72 => ⟨S1x1x1, .i32⟩
  | 73 => ⟨S8x2048x1, .i32⟩
  | 74 => ⟨S8x2048x1, .i1⟩
  | 75 => ⟨S8x2048x1, .i1⟩
  | 76 => ⟨S_, .i1⟩
  | 77 => ⟨S8x2048, .i1⟩
  | 78 => ⟨S8x2048x256, .f32⟩
  | 79 => ⟨S8x2048x256, .i1⟩
  | 80 => ⟨S_, .f32⟩
  | 81 => ⟨S8x2048x256, .f32⟩
  | 82 => ⟨S8x2048x256, .f32⟩
  | 83 => ⟨S8x2048x256, .f32⟩
  | 84 => ⟨S8x2048x256, .f32⟩
  | 85 => ⟨S_, .f32⟩
  | 86 => ⟨S_, .f32⟩
  | 87 => ⟨S_, .f32⟩
  | 88 => ⟨S_, .f32⟩
  | 89 => ⟨S_, .f32⟩
  | 90 => ⟨S8x2048x256, .f32⟩
  | 91 => ⟨S8x2048x256, .f32⟩
  | 92 => ⟨S8x2048x256, .f32⟩
  | 93 => ⟨S8x2048x256, .f32⟩
  | 94 => ⟨S1x1024x256, .f32⟩
  | 95 => ⟨S1024x256, .f32⟩
  | 96 => ⟨S8x2048x256, .f32⟩
  | 97 => ⟨S_, .f32⟩
  | 98 => ⟨S8x2048, .f32⟩
  | 99 => ⟨S8x2048x1, .f32⟩
  | 100 => ⟨S_, .f32⟩
  | 101 => ⟨S8x2048x256, .f32⟩
  | 102 => ⟨S8x2048x256, .f32⟩
  | 103 => ⟨S256x1024, .f32⟩
  | 104 => ⟨S8x2048x1024, .f32⟩
  | 105 => ⟨S8x2048x1024, .f32⟩
  | 106 => ⟨S8x2048x1024, .f32⟩
  | 107 => ⟨S1024x256, .f32⟩
  | 108 => ⟨S_, .f32⟩
  | 109 => ⟨S1024, .f32⟩
  | 110 => ⟨S1x1x1024, .f32⟩
  | 111 => ⟨S8x2048x1024, .f32⟩
  | 112 => ⟨S8x2048x1024, .f32⟩
  | 113 => ⟨S8x2048x1024, .i32⟩
  | 114 => ⟨S_, .f32⟩
  | 115 => ⟨S_, .i32⟩
  | 116 => ⟨S8x2048, .f32⟩
  | 117 => ⟨S8x2048, .i32⟩
  | 118 => ⟨S_, .i32⟩
  | 119 => ⟨S8x2048, .i32⟩
  | 120 => ⟨S8x2048, .i1⟩
  | 121 => ⟨S_, .i32⟩
  | 122 => ⟨S8x2048, .i32⟩
  | 123 => ⟨S8x2048, .i32⟩
  | 124 => ⟨S8x2048, .i32⟩
  | 125 => ⟨S8x2048x1, .i32⟩
  | 126 => ⟨S1, .i32⟩
  | 127 => ⟨S_, .i32⟩
  | _ => ⟨S8x1x2048, .f32⟩

abbrev hbmTy0_1 (i : Nat) : BufTy := match i % 128 with
  | 0 => ⟨S8x2048x1, .i32⟩
  | 1 => ⟨S8x2048x1, .i1⟩
  | 2 => ⟨S1x1x1, .i32⟩
  | 3 => ⟨S8x2048x1, .i32⟩
  | 4 => ⟨S8x2048x1, .i1⟩
  | 5 => ⟨S8x2048x1, .i1⟩
  | 6 => ⟨S_, .i1⟩
  | 7 => ⟨S8x2048, .i1⟩
  | 8 => ⟨S8x2048x256, .f32⟩
  | 9 => ⟨S8x2048x256, .i1⟩
  | 10 => ⟨S_, .f32⟩
  | 11 => ⟨S8x2048x256, .f32⟩
  | 12 => ⟨S8x2048x256, .f32⟩
  | 13 => ⟨S8x2048x256, .f32⟩
  | 14 => ⟨S8x2048x256, .f32⟩
  | 15 => ⟨S_, .f32⟩
  | 16 => ⟨S_, .f32⟩
  | 17 => ⟨S_, .f32⟩
  | 18 => ⟨S_, .f32⟩
  | 19 => ⟨S_, .f32⟩
  | 20 => ⟨S8x2048x256, .f32⟩
  | 21 => ⟨S8x2048x256, .f32⟩
  | 22 => ⟨S8x2048x256, .f32⟩
  | 23 => ⟨S8x2048x256, .f32⟩
  | 24 => ⟨S1x1024x256, .f32⟩
  | 25 => ⟨S1024x256, .f32⟩
  | 26 => ⟨S8x2048x256, .f32⟩
  | 27 => ⟨S_, .f32⟩
  | 28 => ⟨S8x2048, .f32⟩
  | 29 => ⟨S8x2048x1, .f32⟩
  | 30 => ⟨S_, .f32⟩
  | 31 => ⟨S8x2048x256, .f32⟩
  | 32 => ⟨S8x2048x256, .f32⟩
  | 33 => ⟨S256x1024, .f32⟩
  | 34 => ⟨S8x2048x1024, .f32⟩
  | 35 => ⟨S8x2048x1024, .f32⟩
  | 36 => ⟨S8x2048x1024, .f32⟩
  | 37 => ⟨S1024x256, .f32⟩
  | 38 => ⟨S_, .f32⟩
  | 39 => ⟨S1024, .f32⟩
  | 40 => ⟨S1x1x1024, .f32⟩
  | 41 => ⟨S8x2048x1024, .f32⟩
  | 42 => ⟨S8x2048x1024, .f32⟩
  | 43 => ⟨S8x2048x1024, .i32⟩
  | 44 => ⟨S_, .f32⟩
  | 45 => ⟨S_, .i32⟩
  | 46 => ⟨S8x2048, .f32⟩
  | 47 => ⟨S8x2048, .i32⟩
  | 48 => ⟨S_, .i32⟩
  | 49 => ⟨S8x2048, .i32⟩
  | 50 => ⟨S8x2048, .i1⟩
  | 51 => ⟨S_, .i32⟩
  | 52 => ⟨S8x2048, .i32⟩
  | 53 => ⟨S8x2048, .i32⟩
  | 54 => ⟨S8x2048, .i32⟩
  | 55 => ⟨S8x2048x1, .i32⟩
  | 56 => ⟨S1, .i32⟩
  | 57 => ⟨S_, .i32⟩
  | 58 => ⟨S8x2048x1, .i32⟩
  | 59 => ⟨S8x2048x1, .i1⟩
  | 60 => ⟨S1x1x1, .i32⟩
  | 61 => ⟨S8x2048x1, .i32⟩
  | 62 => ⟨S8x2048x1, .i1⟩
  | 63 => ⟨S8x2048x1, .i1⟩
  | 64 => ⟨S_, .i1⟩
  | 65 => ⟨S8x2048, .i1⟩
  | 66 => ⟨S8x2048x256, .f32⟩
  | 67 => ⟨S8x2048x256, .i1⟩
  | 68 => ⟨S_, .f32⟩
  | 69 => ⟨S8x2048x256, .f32⟩
  | 70 => ⟨S8x2048x256, .f32⟩
  | 71 => ⟨S8x2048x256, .f32⟩
  | 72 => ⟨S8x2048x256, .f32⟩
  | 73 => ⟨S_, .f32⟩
  | 74 => ⟨S_, .f32⟩
  | 75 => ⟨S_, .f32⟩
  | 76 => ⟨S_, .f32⟩
  | 77 => ⟨S_, .f32⟩
  | 78 => ⟨S8x2048x256, .f32⟩
  | 79 => ⟨S8x2048x256, .f32⟩
  | 80 => ⟨S8x2048x256, .f32⟩
  | 81 => ⟨S8x2048x256, .f32⟩
  | 82 => ⟨S1x1024x256, .f32⟩
  | 83 => ⟨S1024x256, .f32⟩
  | 84 => ⟨S8x2048x256, .f32⟩
  | 85 => ⟨S_, .f32⟩
  | 86 => ⟨S8x2048, .f32⟩
  | 87 => ⟨S8x2048x1, .f32⟩
  | 88 => ⟨S_, .f32⟩
  | 89 => ⟨S8x2048x256, .f32⟩
  | 90 => ⟨S8x2048x256, .f32⟩
  | 91 => ⟨S256x1024, .f32⟩
  | 92 => ⟨S8x2048x1024, .f32⟩
  | 93 => ⟨S8x2048x1024, .f32⟩
  | 94 => ⟨S8x2048x1024, .f32⟩
  | 95 => ⟨S1024x256, .f32⟩
  | 96 => ⟨S_, .f32⟩
  | 97 => ⟨S1024, .f32⟩
  | 98 => ⟨S1x1x1024, .f32⟩
  | 99 => ⟨S8x2048x1024, .f32⟩
  | 100 => ⟨S8x2048x1024, .f32⟩
  | 101 => ⟨S8x2048x1024, .i32⟩
  | 102 => ⟨S_, .f32⟩
  | 103 => ⟨S_, .i32⟩
  | 104 => ⟨S8x2048, .f32⟩
  | 105 => ⟨S8x2048, .i32⟩
  | 106 => ⟨S_, .i32⟩
  | 107 => ⟨S8x2048, .i32⟩
  | 108 => ⟨S8x2048, .i1⟩
  | 109 => ⟨S_, .i32⟩
  | 110 => ⟨S8x2048, .i32⟩
  | 111 => ⟨S8x2048, .i32⟩
  | 112 => ⟨S8x2048, .i32⟩
  | 113 => ⟨S8x2048x1, .i32⟩
  | 114 => ⟨S1, .i32⟩
  | 115 => ⟨S_, .i32⟩
  | 116 => ⟨S8x2048x1, .i32⟩
  | 117 => ⟨S8x2048x1, .i1⟩
  | 118 => ⟨S1x1x1, .i32⟩
  | 119 => ⟨S8x2048x1, .i32⟩
  | 120 => ⟨S8x2048x1, .i1⟩
  | 121 => ⟨S8x2048x1, .i1⟩
  | 122 => ⟨S_, .i1⟩
  | 123 => ⟨S8x2048, .i1⟩
  | 124 => ⟨S8x2048x256, .f32⟩
  | 125 => ⟨S8x2048x256, .i1⟩
  | 126 => ⟨S_, .f32⟩
  | 127 => ⟨S8x2048x256, .f32⟩
  | _ => ⟨S8x1x2048, .f32⟩

abbrev hbmTy0_2 (i : Nat) : BufTy := match i % 128 with
  | 0 => ⟨S8x2048x256, .f32⟩
  | 1 => ⟨S8x2048x256, .f32⟩
  | 2 => ⟨S8x2048x256, .f32⟩
  | 3 => ⟨S_, .f32⟩
  | 4 => ⟨S_, .f32⟩
  | 5 => ⟨S_, .f32⟩
  | 6 => ⟨S_, .f32⟩
  | 7 => ⟨S_, .f32⟩
  | 8 => ⟨S8x2048x256, .f32⟩
  | 9 => ⟨S8x2048x256, .f32⟩
  | 10 => ⟨S8x2048x256, .f32⟩
  | 11 => ⟨S8x2048x256, .f32⟩
  | 12 => ⟨S1x1024x256, .f32⟩
  | 13 => ⟨S1024x256, .f32⟩
  | 14 => ⟨S8x2048x256, .f32⟩
  | 15 => ⟨S_, .f32⟩
  | 16 => ⟨S8x2048, .f32⟩
  | 17 => ⟨S8x2048x1, .f32⟩
  | 18 => ⟨S_, .f32⟩
  | 19 => ⟨S8x2048x256, .f32⟩
  | 20 => ⟨S8x2048x256, .f32⟩
  | 21 => ⟨S256x1024, .f32⟩
  | 22 => ⟨S8x2048x1024, .f32⟩
  | 23 => ⟨S8x2048x1024, .f32⟩
  | 24 => ⟨S8x2048x1024, .f32⟩
  | 25 => ⟨S1024x256, .f32⟩
  | 26 => ⟨S_, .f32⟩
  | 27 => ⟨S1024, .f32⟩
  | 28 => ⟨S1x1x1024, .f32⟩
  | 29 => ⟨S8x2048x1024, .f32⟩
  | 30 => ⟨S8x2048x1024, .f32⟩
  | 31 => ⟨S8x2048x1024, .i32⟩
  | 32 => ⟨S_, .f32⟩
  | 33 => ⟨S_, .i32⟩
  | 34 => ⟨S8x2048, .f32⟩
  | 35 => ⟨S8x2048, .i32⟩
  | 36 => ⟨S_, .i32⟩
  | 37 => ⟨S8x2048, .i32⟩
  | 38 => ⟨S8x2048, .i1⟩
  | 39 => ⟨S_, .i32⟩
  | 40 => ⟨S8x2048, .i32⟩
  | 41 => ⟨S8x2048, .i32⟩
  | 42 => ⟨S8x2048, .i32⟩
  | 43 => ⟨S8x2048x1, .i32⟩
  | 44 => ⟨S1, .i32⟩
  | 45 => ⟨S_, .i32⟩
  | 46 => ⟨S8x2048x1, .i32⟩
  | 47 => ⟨S8x2048x1, .i1⟩
  | 48 => ⟨S1x1x1, .i32⟩
  | 49 => ⟨S8x2048x1, .i32⟩
  | 50 => ⟨S8x2048x1, .i1⟩
  | 51 => ⟨S8x2048x1, .i1⟩
  | 52 => ⟨S_, .i1⟩
  | 53 => ⟨S8x2048, .i1⟩
  | 54 => ⟨S8x2048x256, .f32⟩
  | 55 => ⟨S8x2048x256, .i1⟩
  | 56 => ⟨S_, .f32⟩
  | 57 => ⟨S8x2048x256, .f32⟩
  | 58 => ⟨S8x2048x256, .f32⟩
  | 59 => ⟨S8x2048x256, .f32⟩
  | 60 => ⟨S8x2048x256, .f32⟩
  | 61 => ⟨S_, .f32⟩
  | 62 => ⟨S_, .f32⟩
  | 63 => ⟨S_, .f32⟩
  | 64 => ⟨S_, .f32⟩
  | 65 => ⟨S_, .f32⟩
  | 66 => ⟨S8x2048x256, .f32⟩
  | 67 => ⟨S8x2048x256, .f32⟩
  | 68 => ⟨S8x2048x256, .f32⟩
  | 69 => ⟨S8x2048x256, .f32⟩
  | 70 => ⟨S1x1024x256, .f32⟩
  | 71 => ⟨S1024x256, .f32⟩
  | 72 => ⟨S8x2048x256, .f32⟩
  | 73 => ⟨S_, .f32⟩
  | 74 => ⟨S8x2048, .f32⟩
  | 75 => ⟨S8x2048x1, .f32⟩
  | 76 => ⟨S_, .f32⟩
  | 77 => ⟨S8x2048x256, .f32⟩
  | 78 => ⟨S8x2048x256, .f32⟩
  | 79 => ⟨S256x1024, .f32⟩
  | 80 => ⟨S8x2048x1024, .f32⟩
  | 81 => ⟨S8x2048x1024, .f32⟩
  | 82 => ⟨S8x2048x1024, .f32⟩
  | 83 => ⟨S1024x256, .f32⟩
  | 84 => ⟨S_, .f32⟩
  | 85 => ⟨S1024, .f32⟩
  | 86 => ⟨S1x1x1024, .f32⟩
  | 87 => ⟨S8x2048x1024, .f32⟩
  | 88 => ⟨S8x2048x1024, .f32⟩
  | 89 => ⟨S8x2048x1024, .i32⟩
  | 90 => ⟨S_, .f32⟩
  | 91 => ⟨S_, .i32⟩
  | 92 => ⟨S8x2048, .f32⟩
  | 93 => ⟨S8x2048, .i32⟩
  | 94 => ⟨S_, .i32⟩
  | 95 => ⟨S8x2048, .i32⟩
  | 96 => ⟨S8x2048, .i1⟩
  | 97 => ⟨S_, .i32⟩
  | 98 => ⟨S8x2048, .i32⟩
  | 99 => ⟨S8x2048, .i32⟩
  | 100 => ⟨S8x2048, .i32⟩
  | 101 => ⟨S8x2048x1, .i32⟩
  | 102 => ⟨S1, .i32⟩
  | 103 => ⟨S_, .i32⟩
  | 104 => ⟨S8x2048x1, .i32⟩
  | 105 => ⟨S8x2048x1, .i1⟩
  | 106 => ⟨S1x1x1, .i32⟩
  | 107 => ⟨S8x2048x1, .i32⟩
  | 108 => ⟨S8x2048x1, .i1⟩
  | 109 => ⟨S8x2048x1, .i1⟩
  | 110 => ⟨S_, .i1⟩
  | 111 => ⟨S8x2048, .i1⟩
  | 112 => ⟨S8x2048x256, .f32⟩
  | 113 => ⟨S8x2048x256, .i1⟩
  | 114 => ⟨S_, .f32⟩
  | 115 => ⟨S8x2048x256, .f32⟩
  | 116 => ⟨S8x2048x256, .f32⟩
  | 117 => ⟨S8x2048x256, .f32⟩
  | 118 => ⟨S8x2048x256, .f32⟩
  | 119 => ⟨S_, .f32⟩
  | 120 => ⟨S_, .f32⟩
  | 121 => ⟨S_, .f32⟩
  | 122 => ⟨S_, .f32⟩
  | 123 => ⟨S_, .f32⟩
  | 124 => ⟨S8x2048x256, .f32⟩
  | 125 => ⟨S8x2048x256, .f32⟩
  | 126 => ⟨S8x2048x256, .f32⟩
  | 127 => ⟨S8x2048x256, .f32⟩
  | _ => ⟨S8x1x2048, .f32⟩

abbrev hbmTy0_3 (i : Nat) : BufTy := match i % 128 with
  | 0 => ⟨S1x1024x256, .f32⟩
  | 1 => ⟨S1024x256, .f32⟩
  | 2 => ⟨S8x2048x256, .f32⟩
  | 3 => ⟨S_, .f32⟩
  | 4 => ⟨S8x2048, .f32⟩
  | 5 => ⟨S8x2048x1, .f32⟩
  | 6 => ⟨S_, .f32⟩
  | 7 => ⟨S8x2048x256, .f32⟩
  | 8 => ⟨S8x2048x256, .f32⟩
  | 9 => ⟨S256x1024, .f32⟩
  | 10 => ⟨S8x2048x1024, .f32⟩
  | 11 => ⟨S8x2048x1024, .f32⟩
  | 12 => ⟨S8x2048x1024, .f32⟩
  | 13 => ⟨S1024x256, .f32⟩
  | 14 => ⟨S_, .f32⟩
  | 15 => ⟨S1024, .f32⟩
  | 16 => ⟨S1x1x1024, .f32⟩
  | 17 => ⟨S8x2048x1024, .f32⟩
  | 18 => ⟨S8x2048x1024, .f32⟩
  | 19 => ⟨S8x2048x1024, .i32⟩
  | 20 => ⟨S_, .f32⟩
  | 21 => ⟨S_, .i32⟩
  | 22 => ⟨S8x2048, .f32⟩
  | 23 => ⟨S8x2048, .i32⟩
  | 24 => ⟨S_, .i32⟩
  | 25 => ⟨S8x2048, .i32⟩
  | 26 => ⟨S8x2048, .i1⟩
  | 27 => ⟨S_, .i32⟩
  | 28 => ⟨S8x2048, .i32⟩
  | 29 => ⟨S8x2048, .i32⟩
  | 30 => ⟨S8x2048, .i32⟩
  | 31 => ⟨S8x2048x1, .i32⟩
  | 32 => ⟨S1, .i32⟩
  | 33 => ⟨S_, .i32⟩
  | 34 => ⟨S8x2048x1, .i32⟩
  | 35 => ⟨S8x2048x1, .i1⟩
  | 36 => ⟨S1x1x1, .i32⟩
  | 37 => ⟨S8x2048x1, .i32⟩
  | 38 => ⟨S8x2048x1, .i1⟩
  | 39 => ⟨S8x2048x1, .i1⟩
  | 40 => ⟨S_, .i1⟩
  | 41 => ⟨S8x2048, .i1⟩
  | 42 => ⟨S8x2048x256, .f32⟩
  | 43 => ⟨S8x2048x256, .i1⟩
  | 44 => ⟨S_, .f32⟩
  | 45 => ⟨S8x2048x256, .f32⟩
  | 46 => ⟨S8x2048x256, .f32⟩
  | 47 => ⟨S8x2048x256, .f32⟩
  | 48 => ⟨S8x2048x256, .f32⟩
  | 49 => ⟨S_, .f32⟩
  | 50 => ⟨S_, .f32⟩
  | 51 => ⟨S_, .f32⟩
  | 52 => ⟨S_, .f32⟩
  | 53 => ⟨S_, .f32⟩
  | 54 => ⟨S8x2048x256, .f32⟩
  | 55 => ⟨S8x2048x256, .f32⟩
  | 56 => ⟨S8x2048x256, .f32⟩
  | 57 => ⟨S8x2048x256, .f32⟩
  | 58 => ⟨S1x1024x256, .f32⟩
  | 59 => ⟨S1024x256, .f32⟩
  | 60 => ⟨S8x2048x256, .f32⟩
  | 61 => ⟨S_, .f32⟩
  | 62 => ⟨S8x2048, .f32⟩
  | 63 => ⟨S8x2048x1, .f32⟩
  | 64 => ⟨S_, .f32⟩
  | 65 => ⟨S8x2048x256, .f32⟩
  | 66 => ⟨S8x2048x256, .f32⟩
  | 67 => ⟨S256x1024, .f32⟩
  | 68 => ⟨S8x2048x1024, .f32⟩
  | 69 => ⟨S8x2048x1024, .f32⟩
  | 70 => ⟨S8x2048x1024, .f32⟩
  | 71 => ⟨S1024x256, .f32⟩
  | 72 => ⟨S_, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .i32⟩
  | 78 => ⟨S_, .f32⟩
  | 79 => ⟨S_, .i32⟩
  | 80 => ⟨S8x2048, .f32⟩
  | 81 => ⟨S8x2048, .i32⟩
  | 82 => ⟨S_, .i32⟩
  | 83 => ⟨S8x2048, .i32⟩
  | 84 => ⟨S8x2048, .i1⟩
  | 85 => ⟨S_, .i32⟩
  | 86 => ⟨S8x2048, .i32⟩
  | 87 => ⟨S8x2048, .i32⟩
  | 88 => ⟨S8x2048, .i32⟩
  | 89 => ⟨S8x2048x1, .i32⟩
  | 90 => ⟨S1, .i32⟩
  | 91 => ⟨S_, .i32⟩
  | 92 => ⟨S8x2048x1, .i32⟩
  | 93 => ⟨S8x2048x1, .i1⟩
  | 94 => ⟨S1x1x1, .i32⟩
  | 95 => ⟨S8x2048x1, .i32⟩
  | 96 => ⟨S8x2048x1, .i1⟩
  | 97 => ⟨S8x2048x1, .i1⟩
  | 98 => ⟨S_, .i1⟩
  | 99 => ⟨S8x2048, .i1⟩
  | 100 => ⟨S8x2048x256, .f32⟩
  | 101 => ⟨S8x2048x256, .i1⟩
  | 102 => ⟨S_, .f32⟩
  | 103 => ⟨S8x2048x256, .f32⟩
  | 104 => ⟨S8x2048x256, .f32⟩
  | 105 => ⟨S8x2048x256, .f32⟩
  | 106 => ⟨S8x2048x256, .f32⟩
  | 107 => ⟨S_, .f32⟩
  | 108 => ⟨S_, .f32⟩
  | 109 => ⟨S_, .f32⟩
  | 110 => ⟨S_, .f32⟩
  | 111 => ⟨S_, .f32⟩
  | 112 => ⟨S8x2048x256, .f32⟩
  | 113 => ⟨S8x2048x256, .f32⟩
  | 114 => ⟨S8x2048x256, .f32⟩
  | 115 => ⟨S8x2048x256, .f32⟩
  | 116 => ⟨S8x256x2048, .f32⟩
  | 117 => ⟨S_, .f32⟩
  | 118 => ⟨S_, .f32⟩
  | 119 => ⟨S_, .i32⟩
  | 120 => ⟨S_, .f32⟩
  | 121 => ⟨S8x256x2050, .f32⟩
  | 122 => ⟨S8x256x2048, .f32⟩
  | 123 => ⟨S1x256x1, .f32⟩
  | 124 => ⟨S1x256, .f32⟩
  | 125 => ⟨S1x8x2048, .f32⟩
  | 126 => ⟨S8x1x2048, .f32⟩
  | 127 => ⟨S_, .f32⟩
  | _ => ⟨S8x1x2048, .f32⟩

abbrev hbmTy0_4 (i : Nat) : BufTy := match i % 128 with
  | 0 => ⟨S8x1x2048, .f32⟩
  | 1 => ⟨S8x1x2048, .f32⟩
  | 2 => ⟨S8x256x2048, .f32⟩
  | 3 => ⟨S1x256x1, .f32⟩
  | 4 => ⟨S1x256, .f32⟩
  | 5 => ⟨S1x8x2048, .f32⟩
  | 6 => ⟨S8x1x2048, .f32⟩
  | 7 => ⟨S8x1x2048, .f32⟩
  | 8 => ⟨S8x256x2048, .f32⟩
  | 9 => ⟨S1x256x1, .f32⟩
  | 10 => ⟨S1x256, .f32⟩
  | 11 => ⟨S1x8x2048, .f32⟩
  | 12 => ⟨S8x1x2048, .f32⟩
  | 13 => ⟨S8x1x2048, .f32⟩
  | 14 => ⟨S1x1x1, .f32⟩
  | 15 => ⟨S8x1x2048, .f32⟩
  | 16 => ⟨S8x1x2048, .f32⟩
  | _ => ⟨S8x1x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1x2048, .f32⟩

abbrev bufTy : (tb : Table) → Fin (tcTables nBuf tb) → BufTy
  | .hbm, ⟨i, _⟩ => hbmTy i
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_call0_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_v0 : Ref sig .tc := ⟨.hbm, 31, rfl⟩
abbrev main_v1 : Ref sig .tc := ⟨.hbm, 32, rfl⟩
abbrev main_cst : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_0 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_call1_cst_0 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_cst_1 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_call0_v0 : Ref sig .tc := ⟨.hbm, 55, rfl⟩
abbrev main_call1_call0_cst : Ref sig .tc := ⟨.hbm, 56, rfl⟩
abbrev main_call1_call0_c : Ref sig .tc := ⟨.hbm, 57, rfl⟩
abbrev main_call1_call0_v1_0 : Ref sig .tc := ⟨.hbm, 58, rfl⟩
abbrev main_call1_v14 : Ref sig .tc := ⟨.hbm, 59, rfl⟩
abbrev main_call1_call1_c : Ref sig .tc := ⟨.hbm, 60, rfl⟩
abbrev main_call1_call1_v0 : Ref sig .tc := ⟨.hbm, 61, rfl⟩
abbrev main_call1_call1_v1 : Ref sig .tc := ⟨.hbm, 62, rfl⟩
abbrev main_call1_call1_c_0 : Ref sig .tc := ⟨.hbm, 63, rfl⟩
abbrev main_call1_call1_v2 : Ref sig .tc := ⟨.hbm, 64, rfl⟩
abbrev main_call1_call1_v3 : Ref sig .tc := ⟨.hbm, 65, rfl⟩
abbrev main_call1_call1_v4 : Ref sig .tc := ⟨.hbm, 66, rfl⟩
abbrev main_call1_call1_v5 : Ref sig .tc := ⟨.hbm, 67, rfl⟩
abbrev main_call1_call1_c_1 : Ref sig .tc := ⟨.hbm, 68, rfl⟩
abbrev main_call1_call1_c_2 : Ref sig .tc := ⟨.hbm, 69, rfl⟩
abbrev main_call1_call1_v6 : Ref sig .tc := ⟨.hbm, 70, rfl⟩
abbrev main_call1_call1_v7 : Ref sig .tc := ⟨.hbm, 71, rfl⟩
abbrev main_call1_call1_v8 : Ref sig .tc := ⟨.hbm, 72, rfl⟩
abbrev main_call1_call1_v9 : Ref sig .tc := ⟨.hbm, 73, rfl⟩
abbrev main_call1_call1_v10 : Ref sig .tc := ⟨.hbm, 74, rfl⟩
abbrev main_call1_call1_v11 : Ref sig .tc := ⟨.hbm, 75, rfl⟩
abbrev main_call1_call1_c_3 : Ref sig .tc := ⟨.hbm, 76, rfl⟩
abbrev main_call1_call1_v12 : Ref sig .tc := ⟨.hbm, 77, rfl⟩
abbrev main_call1_call1_v13 : Ref sig .tc := ⟨.hbm, 78, rfl⟩
abbrev main_call1_call1_v14 : Ref sig .tc := ⟨.hbm, 79, rfl⟩
abbrev main_call1_call1_cst : Ref sig .tc := ⟨.hbm, 80, rfl⟩
abbrev main_call1_call1_v15 : Ref sig .tc := ⟨.hbm, 81, rfl⟩
abbrev main_call1_v15 : Ref sig .tc := ⟨.hbm, 82, rfl⟩
abbrev main_call1_v16 : Ref sig .tc := ⟨.hbm, 83, rfl⟩
abbrev main_call1_v17 : Ref sig .tc := ⟨.hbm, 84, rfl⟩
abbrev main_call1_cst_2 : Ref sig .tc := ⟨.hbm, 85, rfl⟩
abbrev main_call1_v18 : Ref sig .tc := ⟨.hbm, 86, rfl⟩
abbrev main_call1_cst_3 : Ref sig .tc := ⟨.hbm, 87, rfl⟩
abbrev main_call1_v19 : Ref sig .tc := ⟨.hbm, 88, rfl⟩
abbrev main_v5_2 : Ref sig .tc := ⟨.hbm, 89, rfl⟩
abbrev main_call1_v21 : Ref sig .tc := ⟨.hbm, 90, rfl⟩
abbrev main_call1_v22 : Ref sig .tc := ⟨.hbm, 91, rfl⟩
abbrev main_v5_0 : Ref sig .tc := ⟨.hbm, 92, rfl⟩
abbrev main_v5_1 : Ref sig .tc := ⟨.hbm, 93, rfl⟩
abbrev main_v6 : Ref sig .tc := ⟨.hbm, 94, rfl⟩
abbrev main_v7 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_call2_cst_0 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_cst_1 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_call0_v0 : Ref sig .tc := ⟨.hbm, 113, rfl⟩
abbrev main_call2_call0_cst : Ref sig .tc := ⟨.hbm, 114, rfl⟩
abbrev main_call2_call0_c : Ref sig .tc := ⟨.hbm, 115, rfl⟩
abbrev main_call2_call0_v1_0 : Ref sig .tc := ⟨.hbm, 116, rfl⟩
abbrev main_call2_v14 : Ref sig .tc := ⟨.hbm, 117, rfl⟩
abbrev main_call2_call1_c : Ref sig .tc := ⟨.hbm, 118, rfl⟩
abbrev main_call2_call1_v0 : Ref sig .tc := ⟨.hbm, 119, rfl⟩
abbrev main_call2_call1_v1 : Ref sig .tc := ⟨.hbm, 120, rfl⟩
abbrev main_call2_call1_c_0 : Ref sig .tc := ⟨.hbm, 121, rfl⟩
abbrev main_call2_call1_v2 : Ref sig .tc := ⟨.hbm, 122, rfl⟩
abbrev main_call2_call1_v3 : Ref sig .tc := ⟨.hbm, 123, rfl⟩
abbrev main_call2_call1_v4 : Ref sig .tc := ⟨.hbm, 124, rfl⟩
abbrev main_call2_call1_v5 : Ref sig .tc := ⟨.hbm, 125, rfl⟩
abbrev main_call2_call1_c_1 : Ref sig .tc := ⟨.hbm, 126, rfl⟩
abbrev main_call2_call1_c_2 : Ref sig .tc := ⟨.hbm, 127, rfl⟩
abbrev main_call2_call1_v6 : Ref sig .tc := ⟨.hbm, 128, rfl⟩
abbrev main_call2_call1_v7 : Ref sig .tc := ⟨.hbm, 129, rfl⟩
abbrev main_call2_call1_v8 : Ref sig .tc := ⟨.hbm, 130, rfl⟩
abbrev main_call2_call1_v9 : Ref sig .tc := ⟨.hbm, 131, rfl⟩
abbrev main_call2_call1_v10 : Ref sig .tc := ⟨.hbm, 132, rfl⟩
abbrev main_call2_call1_v11 : Ref sig .tc := ⟨.hbm, 133, rfl⟩
abbrev main_call2_call1_c_3 : Ref sig .tc := ⟨.hbm, 134, rfl⟩
abbrev main_call2_call1_v12 : Ref sig .tc := ⟨.hbm, 135, rfl⟩
abbrev main_call2_call1_v13 : Ref sig .tc := ⟨.hbm, 136, rfl⟩
abbrev main_call2_call1_v14 : Ref sig .tc := ⟨.hbm, 137, rfl⟩
abbrev main_call2_call1_cst : Ref sig .tc := ⟨.hbm, 138, rfl⟩
abbrev main_call2_call1_v15 : Ref sig .tc := ⟨.hbm, 139, rfl⟩
abbrev main_call2_v15 : Ref sig .tc := ⟨.hbm, 140, rfl⟩
abbrev main_call2_v16 : Ref sig .tc := ⟨.hbm, 141, rfl⟩
abbrev main_call2_v17 : Ref sig .tc := ⟨.hbm, 142, rfl⟩
abbrev main_call2_cst_2 : Ref sig .tc := ⟨.hbm, 143, rfl⟩
abbrev main_call2_v18 : Ref sig .tc := ⟨.hbm, 144, rfl⟩
abbrev main_call2_cst_3 : Ref sig .tc := ⟨.hbm, 145, rfl⟩
abbrev main_call2_v19 : Ref sig .tc := ⟨.hbm, 146, rfl⟩
abbrev main_v8_2 : Ref sig .tc := ⟨.hbm, 147, rfl⟩
abbrev main_call2_v21 : Ref sig .tc := ⟨.hbm, 148, rfl⟩
abbrev main_call2_v22 : Ref sig .tc := ⟨.hbm, 149, rfl⟩
abbrev main_v8_0 : Ref sig .tc := ⟨.hbm, 150, rfl⟩
abbrev main_v8_1 : Ref sig .tc := ⟨.hbm, 151, rfl⟩
abbrev main_v9 : Ref sig .tc := ⟨.hbm, 152, rfl⟩
abbrev main_v10 : Ref sig .tc := ⟨.hbm, 153, rfl⟩
abbrev main_call3_v0 : Ref sig .tc := ⟨.hbm, 154, rfl⟩
abbrev main_call3_cst : Ref sig .tc := ⟨.hbm, 155, rfl⟩
abbrev main_call3_v1 : Ref sig .tc := ⟨.hbm, 156, rfl⟩
abbrev main_call3_v2 : Ref sig .tc := ⟨.hbm, 157, rfl⟩
abbrev main_call3_cst_0 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_cst_1 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_call0_v0 : Ref sig .tc := ⟨.hbm, 171, rfl⟩
abbrev main_call3_call0_cst : Ref sig .tc := ⟨.hbm, 172, rfl⟩
abbrev main_call3_call0_c : Ref sig .tc := ⟨.hbm, 173, rfl⟩
abbrev main_call3_call0_v1_0 : Ref sig .tc := ⟨.hbm, 174, rfl⟩
abbrev main_call3_v14 : Ref sig .tc := ⟨.hbm, 175, rfl⟩
abbrev main_call3_call1_c : Ref sig .tc := ⟨.hbm, 176, rfl⟩
abbrev main_call3_call1_v0 : Ref sig .tc := ⟨.hbm, 177, rfl⟩
abbrev main_call3_call1_v1 : Ref sig .tc := ⟨.hbm, 178, rfl⟩
abbrev main_call3_call1_c_0 : Ref sig .tc := ⟨.hbm, 179, rfl⟩
abbrev main_call3_call1_v2 : Ref sig .tc := ⟨.hbm, 180, rfl⟩
abbrev main_call3_call1_v3 : Ref sig .tc := ⟨.hbm, 181, rfl⟩
abbrev main_call3_call1_v4 : Ref sig .tc := ⟨.hbm, 182, rfl⟩
abbrev main_call3_call1_v5 : Ref sig .tc := ⟨.hbm, 183, rfl⟩
abbrev main_call3_call1_c_1 : Ref sig .tc := ⟨.hbm, 184, rfl⟩
abbrev main_call3_call1_c_2 : Ref sig .tc := ⟨.hbm, 185, rfl⟩
abbrev main_call3_call1_v6 : Ref sig .tc := ⟨.hbm, 186, rfl⟩
abbrev main_call3_call1_v7 : Ref sig .tc := ⟨.hbm, 187, rfl⟩
abbrev main_call3_call1_v8 : Ref sig .tc := ⟨.hbm, 188, rfl⟩
abbrev main_call3_call1_v9 : Ref sig .tc := ⟨.hbm, 189, rfl⟩
abbrev main_call3_call1_v10 : Ref sig .tc := ⟨.hbm, 190, rfl⟩
abbrev main_call3_call1_v11 : Ref sig .tc := ⟨.hbm, 191, rfl⟩
abbrev main_call3_call1_c_3 : Ref sig .tc := ⟨.hbm, 192, rfl⟩
abbrev main_call3_call1_v12 : Ref sig .tc := ⟨.hbm, 193, rfl⟩
abbrev main_call3_call1_v13 : Ref sig .tc := ⟨.hbm, 194, rfl⟩
abbrev main_call3_call1_v14 : Ref sig .tc := ⟨.hbm, 195, rfl⟩
abbrev main_call3_call1_cst : Ref sig .tc := ⟨.hbm, 196, rfl⟩
abbrev main_call3_call1_v15 : Ref sig .tc := ⟨.hbm, 197, rfl⟩
abbrev main_call3_v15 : Ref sig .tc := ⟨.hbm, 198, rfl⟩
abbrev main_call3_v16 : Ref sig .tc := ⟨.hbm, 199, rfl⟩
abbrev main_call3_v17 : Ref sig .tc := ⟨.hbm, 200, rfl⟩
abbrev main_call3_cst_2 : Ref sig .tc := ⟨.hbm, 201, rfl⟩
abbrev main_call3_v18 : Ref sig .tc := ⟨.hbm, 202, rfl⟩
abbrev main_call3_cst_3 : Ref sig .tc := ⟨.hbm, 203, rfl⟩
abbrev main_call3_v19 : Ref sig .tc := ⟨.hbm, 204, rfl⟩
abbrev main_v11_2 : Ref sig .tc := ⟨.hbm, 205, rfl⟩
abbrev main_call3_v21 : Ref sig .tc := ⟨.hbm, 206, rfl⟩
abbrev main_call3_v22 : Ref sig .tc := ⟨.hbm, 207, rfl⟩
abbrev main_v11_0 : Ref sig .tc := ⟨.hbm, 208, rfl⟩
abbrev main_v11_1 : Ref sig .tc := ⟨.hbm, 209, rfl⟩
abbrev main_v12 : Ref sig .tc := ⟨.hbm, 210, rfl⟩
abbrev main_v13 : Ref sig .tc := ⟨.hbm, 211, rfl⟩
abbrev main_call4_v0 : Ref sig .tc := ⟨.hbm, 212, rfl⟩
abbrev main_call4_cst : Ref sig .tc := ⟨.hbm, 213, rfl⟩
abbrev main_call4_v1 : Ref sig .tc := ⟨.hbm, 214, rfl⟩
abbrev main_call4_v2 : Ref sig .tc := ⟨.hbm, 215, rfl⟩
abbrev main_call4_cst_0 : Ref sig .tc := ⟨.hbm, 216, rfl⟩
abbrev main_call4_v3 : Ref sig .tc := ⟨.hbm, 217, rfl⟩
abbrev main_call4_v4 : Ref sig .tc := ⟨.hbm, 218, rfl⟩
abbrev main_call4_v5 : Ref sig .tc := ⟨.hbm, 219, rfl⟩
abbrev main_call4_v6 : Ref sig .tc := ⟨.hbm, 220, rfl⟩
abbrev main_call4_v7 : Ref sig .tc := ⟨.hbm, 221, rfl⟩
abbrev main_call4_v8 : Ref sig .tc := ⟨.hbm, 222, rfl⟩
abbrev main_call4_v9 : Ref sig .tc := ⟨.hbm, 223, rfl⟩
abbrev main_call4_cst_1 : Ref sig .tc := ⟨.hbm, 224, rfl⟩
abbrev main_call4_v10 : Ref sig .tc := ⟨.hbm, 225, rfl⟩
abbrev main_call4_v11 : Ref sig .tc := ⟨.hbm, 226, rfl⟩
abbrev main_call4_v12 : Ref sig .tc := ⟨.hbm, 227, rfl⟩
abbrev main_call4_v13 : Ref sig .tc := ⟨.hbm, 228, rfl⟩
abbrev main_call4_call0_v0 : Ref sig .tc := ⟨.hbm, 229, rfl⟩
abbrev main_call4_call0_cst : Ref sig .tc := ⟨.hbm, 230, rfl⟩
abbrev main_call4_call0_c : Ref sig .tc := ⟨.hbm, 231, rfl⟩
abbrev main_call4_call0_v1_0 : Ref sig .tc := ⟨.hbm, 232, rfl⟩
abbrev main_call4_v14 : Ref sig .tc := ⟨.hbm, 233, rfl⟩
abbrev main_call4_call1_c : Ref sig .tc := ⟨.hbm, 234, rfl⟩
abbrev main_call4_call1_v0 : Ref sig .tc := ⟨.hbm, 235, rfl⟩
abbrev main_call4_call1_v1 : Ref sig .tc := ⟨.hbm, 236, rfl⟩
abbrev main_call4_call1_c_0 : Ref sig .tc := ⟨.hbm, 237, rfl⟩
abbrev main_call4_call1_v2 : Ref sig .tc := ⟨.hbm, 238, rfl⟩
abbrev main_call4_call1_v3 : Ref sig .tc := ⟨.hbm, 239, rfl⟩
abbrev main_call4_call1_v4 : Ref sig .tc := ⟨.hbm, 240, rfl⟩
abbrev main_call4_call1_v5 : Ref sig .tc := ⟨.hbm, 241, rfl⟩
abbrev main_call4_call1_c_1 : Ref sig .tc := ⟨.hbm, 242, rfl⟩
abbrev main_call4_call1_c_2 : Ref sig .tc := ⟨.hbm, 243, rfl⟩
abbrev main_call4_call1_v6 : Ref sig .tc := ⟨.hbm, 244, rfl⟩
abbrev main_call4_call1_v7 : Ref sig .tc := ⟨.hbm, 245, rfl⟩
abbrev main_call4_call1_v8 : Ref sig .tc := ⟨.hbm, 246, rfl⟩
abbrev main_call4_call1_v9 : Ref sig .tc := ⟨.hbm, 247, rfl⟩
abbrev main_call4_call1_v10 : Ref sig .tc := ⟨.hbm, 248, rfl⟩
abbrev main_call4_call1_v11 : Ref sig .tc := ⟨.hbm, 249, rfl⟩
abbrev main_call4_call1_c_3 : Ref sig .tc := ⟨.hbm, 250, rfl⟩
abbrev main_call4_call1_v12 : Ref sig .tc := ⟨.hbm, 251, rfl⟩
abbrev main_call4_call1_v13 : Ref sig .tc := ⟨.hbm, 252, rfl⟩
abbrev main_call4_call1_v14 : Ref sig .tc := ⟨.hbm, 253, rfl⟩
abbrev main_call4_call1_cst : Ref sig .tc := ⟨.hbm, 254, rfl⟩
abbrev main_call4_call1_v15 : Ref sig .tc := ⟨.hbm, 255, rfl⟩
abbrev main_call4_v15 : Ref sig .tc := ⟨.hbm, 256, rfl⟩
abbrev main_call4_v16 : Ref sig .tc := ⟨.hbm, 257, rfl⟩
abbrev main_call4_v17 : Ref sig .tc := ⟨.hbm, 258, rfl⟩
abbrev main_call4_cst_2 : Ref sig .tc := ⟨.hbm, 259, rfl⟩
abbrev main_call4_v18 : Ref sig .tc := ⟨.hbm, 260, rfl⟩
abbrev main_call4_cst_3 : Ref sig .tc := ⟨.hbm, 261, rfl⟩
abbrev main_call4_v19 : Ref sig .tc := ⟨.hbm, 262, rfl⟩
abbrev main_v14_2 : Ref sig .tc := ⟨.hbm, 263, rfl⟩
abbrev main_call4_v21 : Ref sig .tc := ⟨.hbm, 264, rfl⟩
abbrev main_call4_v22 : Ref sig .tc := ⟨.hbm, 265, rfl⟩
abbrev main_v14_0 : Ref sig .tc := ⟨.hbm, 266, rfl⟩
abbrev main_v14_1 : Ref sig .tc := ⟨.hbm, 267, rfl⟩
abbrev main_v15 : Ref sig .tc := ⟨.hbm, 268, rfl⟩
abbrev main_v16 : Ref sig .tc := ⟨.hbm, 269, rfl⟩
abbrev main_call5_v0 : Ref sig .tc := ⟨.hbm, 270, rfl⟩
abbrev main_call5_cst : Ref sig .tc := ⟨.hbm, 271, rfl⟩
abbrev main_call5_v1 : Ref sig .tc := ⟨.hbm, 272, rfl⟩
abbrev main_call5_v2 : Ref sig .tc := ⟨.hbm, 273, rfl⟩
abbrev main_call5_cst_0 : Ref sig .tc := ⟨.hbm, 274, rfl⟩
abbrev main_call5_v3 : Ref sig .tc := ⟨.hbm, 275, rfl⟩
abbrev main_call5_v4 : Ref sig .tc := ⟨.hbm, 276, rfl⟩
abbrev main_call5_v5 : Ref sig .tc := ⟨.hbm, 277, rfl⟩
abbrev main_call5_v6 : Ref sig .tc := ⟨.hbm, 278, rfl⟩
abbrev main_call5_v7 : Ref sig .tc := ⟨.hbm, 279, rfl⟩
abbrev main_call5_v8 : Ref sig .tc := ⟨.hbm, 280, rfl⟩
abbrev main_call5_v9 : Ref sig .tc := ⟨.hbm, 281, rfl⟩
abbrev main_call5_cst_1 : Ref sig .tc := ⟨.hbm, 282, rfl⟩
abbrev main_call5_v10 : Ref sig .tc := ⟨.hbm, 283, rfl⟩
abbrev main_call5_v11 : Ref sig .tc := ⟨.hbm, 284, rfl⟩
abbrev main_call5_v12 : Ref sig .tc := ⟨.hbm, 285, rfl⟩
abbrev main_call5_v13 : Ref sig .tc := ⟨.hbm, 286, rfl⟩
abbrev main_call5_call0_v0 : Ref sig .tc := ⟨.hbm, 287, rfl⟩
abbrev main_call5_call0_cst : Ref sig .tc := ⟨.hbm, 288, rfl⟩
abbrev main_call5_call0_c : Ref sig .tc := ⟨.hbm, 289, rfl⟩
abbrev main_call5_call0_v1_0 : Ref sig .tc := ⟨.hbm, 290, rfl⟩
abbrev main_call5_v14 : Ref sig .tc := ⟨.hbm, 291, rfl⟩
abbrev main_call5_call1_c : Ref sig .tc := ⟨.hbm, 292, rfl⟩
abbrev main_call5_call1_v0 : Ref sig .tc := ⟨.hbm, 293, rfl⟩
abbrev main_call5_call1_v1 : Ref sig .tc := ⟨.hbm, 294, rfl⟩
abbrev main_call5_call1_c_0 : Ref sig .tc := ⟨.hbm, 295, rfl⟩
abbrev main_call5_call1_v2 : Ref sig .tc := ⟨.hbm, 296, rfl⟩
abbrev main_call5_call1_v3 : Ref sig .tc := ⟨.hbm, 297, rfl⟩
abbrev main_call5_call1_v4 : Ref sig .tc := ⟨.hbm, 298, rfl⟩
abbrev main_call5_call1_v5 : Ref sig .tc := ⟨.hbm, 299, rfl⟩
abbrev main_call5_call1_c_1 : Ref sig .tc := ⟨.hbm, 300, rfl⟩
abbrev main_call5_call1_c_2 : Ref sig .tc := ⟨.hbm, 301, rfl⟩
abbrev main_call5_call1_v6 : Ref sig .tc := ⟨.hbm, 302, rfl⟩
abbrev main_call5_call1_v7 : Ref sig .tc := ⟨.hbm, 303, rfl⟩
abbrev main_call5_call1_v8 : Ref sig .tc := ⟨.hbm, 304, rfl⟩
abbrev main_call5_call1_v9 : Ref sig .tc := ⟨.hbm, 305, rfl⟩
abbrev main_call5_call1_v10 : Ref sig .tc := ⟨.hbm, 306, rfl⟩
abbrev main_call5_call1_v11 : Ref sig .tc := ⟨.hbm, 307, rfl⟩
abbrev main_call5_call1_c_3 : Ref sig .tc := ⟨.hbm, 308, rfl⟩
abbrev main_call5_call1_v12 : Ref sig .tc := ⟨.hbm, 309, rfl⟩
abbrev main_call5_call1_v13 : Ref sig .tc := ⟨.hbm, 310, rfl⟩
abbrev main_call5_call1_v14 : Ref sig .tc := ⟨.hbm, 311, rfl⟩
abbrev main_call5_call1_cst : Ref sig .tc := ⟨.hbm, 312, rfl⟩
abbrev main_call5_call1_v15 : Ref sig .tc := ⟨.hbm, 313, rfl⟩
abbrev main_call5_v15 : Ref sig .tc := ⟨.hbm, 314, rfl⟩
abbrev main_call5_v16 : Ref sig .tc := ⟨.hbm, 315, rfl⟩
abbrev main_call5_v17 : Ref sig .tc := ⟨.hbm, 316, rfl⟩
abbrev main_call5_cst_2 : Ref sig .tc := ⟨.hbm, 317, rfl⟩
abbrev main_call5_v18 : Ref sig .tc := ⟨.hbm, 318, rfl⟩
abbrev main_call5_cst_3 : Ref sig .tc := ⟨.hbm, 319, rfl⟩
abbrev main_call5_v19 : Ref sig .tc := ⟨.hbm, 320, rfl⟩
abbrev main_v17_2 : Ref sig .tc := ⟨.hbm, 321, rfl⟩
abbrev main_call5_v21 : Ref sig .tc := ⟨.hbm, 322, rfl⟩
abbrev main_call5_v22 : Ref sig .tc := ⟨.hbm, 323, rfl⟩
abbrev main_v17_0 : Ref sig .tc := ⟨.hbm, 324, rfl⟩
abbrev main_v17_1 : Ref sig .tc := ⟨.hbm, 325, rfl⟩
abbrev main_v18 : Ref sig .tc := ⟨.hbm, 326, rfl⟩
abbrev main_v19 : Ref sig .tc := ⟨.hbm, 327, rfl⟩
abbrev main_call6_v0 : Ref sig .tc := ⟨.hbm, 328, rfl⟩
abbrev main_call6_cst : Ref sig .tc := ⟨.hbm, 329, rfl⟩
abbrev main_call6_v1 : Ref sig .tc := ⟨.hbm, 330, rfl⟩
abbrev main_call6_v2 : Ref sig .tc := ⟨.hbm, 331, rfl⟩
abbrev main_call6_cst_0 : Ref sig .tc := ⟨.hbm, 332, rfl⟩
abbrev main_call6_v3 : Ref sig .tc := ⟨.hbm, 333, rfl⟩
abbrev main_call6_v4 : Ref sig .tc := ⟨.hbm, 334, rfl⟩
abbrev main_call6_v5 : Ref sig .tc := ⟨.hbm, 335, rfl⟩
abbrev main_call6_v6 : Ref sig .tc := ⟨.hbm, 336, rfl⟩
abbrev main_call6_v7 : Ref sig .tc := ⟨.hbm, 337, rfl⟩
abbrev main_call6_v8 : Ref sig .tc := ⟨.hbm, 338, rfl⟩
abbrev main_call6_v9 : Ref sig .tc := ⟨.hbm, 339, rfl⟩
abbrev main_call6_cst_1 : Ref sig .tc := ⟨.hbm, 340, rfl⟩
abbrev main_call6_v10 : Ref sig .tc := ⟨.hbm, 341, rfl⟩
abbrev main_call6_v11 : Ref sig .tc := ⟨.hbm, 342, rfl⟩
abbrev main_call6_v12 : Ref sig .tc := ⟨.hbm, 343, rfl⟩
abbrev main_call6_v13 : Ref sig .tc := ⟨.hbm, 344, rfl⟩
abbrev main_call6_call0_v0 : Ref sig .tc := ⟨.hbm, 345, rfl⟩
abbrev main_call6_call0_cst : Ref sig .tc := ⟨.hbm, 346, rfl⟩
abbrev main_call6_call0_c : Ref sig .tc := ⟨.hbm, 347, rfl⟩
abbrev main_call6_call0_v1_0 : Ref sig .tc := ⟨.hbm, 348, rfl⟩
abbrev main_call6_v14 : Ref sig .tc := ⟨.hbm, 349, rfl⟩
abbrev main_call6_call1_c : Ref sig .tc := ⟨.hbm, 350, rfl⟩
abbrev main_call6_call1_v0 : Ref sig .tc := ⟨.hbm, 351, rfl⟩
abbrev main_call6_call1_v1 : Ref sig .tc := ⟨.hbm, 352, rfl⟩
abbrev main_call6_call1_c_0 : Ref sig .tc := ⟨.hbm, 353, rfl⟩
abbrev main_call6_call1_v2 : Ref sig .tc := ⟨.hbm, 354, rfl⟩
abbrev main_call6_call1_v3 : Ref sig .tc := ⟨.hbm, 355, rfl⟩
abbrev main_call6_call1_v4 : Ref sig .tc := ⟨.hbm, 356, rfl⟩
abbrev main_call6_call1_v5 : Ref sig .tc := ⟨.hbm, 357, rfl⟩
abbrev main_call6_call1_c_1 : Ref sig .tc := ⟨.hbm, 358, rfl⟩
abbrev main_call6_call1_c_2 : Ref sig .tc := ⟨.hbm, 359, rfl⟩
abbrev main_call6_call1_v6 : Ref sig .tc := ⟨.hbm, 360, rfl⟩
abbrev main_call6_call1_v7 : Ref sig .tc := ⟨.hbm, 361, rfl⟩
abbrev main_call6_call1_v8 : Ref sig .tc := ⟨.hbm, 362, rfl⟩
abbrev main_call6_call1_v9 : Ref sig .tc := ⟨.hbm, 363, rfl⟩
abbrev main_call6_call1_v10 : Ref sig .tc := ⟨.hbm, 364, rfl⟩
abbrev main_call6_call1_v11 : Ref sig .tc := ⟨.hbm, 365, rfl⟩
abbrev main_call6_call1_c_3 : Ref sig .tc := ⟨.hbm, 366, rfl⟩
abbrev main_call6_call1_v12 : Ref sig .tc := ⟨.hbm, 367, rfl⟩
abbrev main_call6_call1_v13 : Ref sig .tc := ⟨.hbm, 368, rfl⟩
abbrev main_call6_call1_v14 : Ref sig .tc := ⟨.hbm, 369, rfl⟩
abbrev main_call6_call1_cst : Ref sig .tc := ⟨.hbm, 370, rfl⟩
abbrev main_call6_call1_v15 : Ref sig .tc := ⟨.hbm, 371, rfl⟩
abbrev main_call6_v15 : Ref sig .tc := ⟨.hbm, 372, rfl⟩
abbrev main_call6_v16 : Ref sig .tc := ⟨.hbm, 373, rfl⟩
abbrev main_call6_v17 : Ref sig .tc := ⟨.hbm, 374, rfl⟩
abbrev main_call6_cst_2 : Ref sig .tc := ⟨.hbm, 375, rfl⟩
abbrev main_call6_v18 : Ref sig .tc := ⟨.hbm, 376, rfl⟩
abbrev main_call6_cst_3 : Ref sig .tc := ⟨.hbm, 377, rfl⟩
abbrev main_call6_v19 : Ref sig .tc := ⟨.hbm, 378, rfl⟩
abbrev main_v20_2 : Ref sig .tc := ⟨.hbm, 379, rfl⟩
abbrev main_call6_v21 : Ref sig .tc := ⟨.hbm, 380, rfl⟩
abbrev main_call6_v22 : Ref sig .tc := ⟨.hbm, 381, rfl⟩
abbrev main_v20_0 : Ref sig .tc := ⟨.hbm, 382, rfl⟩
abbrev main_v20_1 : Ref sig .tc := ⟨.hbm, 383, rfl⟩
abbrev main_v21 : Ref sig .tc := ⟨.hbm, 384, rfl⟩
abbrev main_v22 : Ref sig .tc := ⟨.hbm, 385, rfl⟩
abbrev main_call7_v0 : Ref sig .tc := ⟨.hbm, 386, rfl⟩
abbrev main_call7_cst : Ref sig .tc := ⟨.hbm, 387, rfl⟩
abbrev main_call7_v1 : Ref sig .tc := ⟨.hbm, 388, rfl⟩
abbrev main_call7_v2 : Ref sig .tc := ⟨.hbm, 389, rfl⟩
abbrev main_call7_cst_0 : Ref sig .tc := ⟨.hbm, 390, rfl⟩
abbrev main_call7_v3 : Ref sig .tc := ⟨.hbm, 391, rfl⟩
abbrev main_call7_v4 : Ref sig .tc := ⟨.hbm, 392, rfl⟩
abbrev main_call7_v5 : Ref sig .tc := ⟨.hbm, 393, rfl⟩
abbrev main_call7_v6 : Ref sig .tc := ⟨.hbm, 394, rfl⟩
abbrev main_call7_v7 : Ref sig .tc := ⟨.hbm, 395, rfl⟩
abbrev main_call7_v8 : Ref sig .tc := ⟨.hbm, 396, rfl⟩
abbrev main_call7_v9 : Ref sig .tc := ⟨.hbm, 397, rfl⟩
abbrev main_call7_cst_1 : Ref sig .tc := ⟨.hbm, 398, rfl⟩
abbrev main_call7_v10 : Ref sig .tc := ⟨.hbm, 399, rfl⟩
abbrev main_call7_v11 : Ref sig .tc := ⟨.hbm, 400, rfl⟩
abbrev main_call7_v12 : Ref sig .tc := ⟨.hbm, 401, rfl⟩
abbrev main_call7_v13 : Ref sig .tc := ⟨.hbm, 402, rfl⟩
abbrev main_call7_call0_v0 : Ref sig .tc := ⟨.hbm, 403, rfl⟩
abbrev main_call7_call0_cst : Ref sig .tc := ⟨.hbm, 404, rfl⟩
abbrev main_call7_call0_c : Ref sig .tc := ⟨.hbm, 405, rfl⟩
abbrev main_call7_call0_v1_0 : Ref sig .tc := ⟨.hbm, 406, rfl⟩
abbrev main_call7_v14 : Ref sig .tc := ⟨.hbm, 407, rfl⟩
abbrev main_call7_call1_c : Ref sig .tc := ⟨.hbm, 408, rfl⟩
abbrev main_call7_call1_v0 : Ref sig .tc := ⟨.hbm, 409, rfl⟩
abbrev main_call7_call1_v1 : Ref sig .tc := ⟨.hbm, 410, rfl⟩
abbrev main_call7_call1_c_0 : Ref sig .tc := ⟨.hbm, 411, rfl⟩
abbrev main_call7_call1_v2 : Ref sig .tc := ⟨.hbm, 412, rfl⟩
abbrev main_call7_call1_v3 : Ref sig .tc := ⟨.hbm, 413, rfl⟩
abbrev main_call7_call1_v4 : Ref sig .tc := ⟨.hbm, 414, rfl⟩
abbrev main_call7_call1_v5 : Ref sig .tc := ⟨.hbm, 415, rfl⟩
abbrev main_call7_call1_c_1 : Ref sig .tc := ⟨.hbm, 416, rfl⟩
abbrev main_call7_call1_c_2 : Ref sig .tc := ⟨.hbm, 417, rfl⟩
abbrev main_call7_call1_v6 : Ref sig .tc := ⟨.hbm, 418, rfl⟩
abbrev main_call7_call1_v7 : Ref sig .tc := ⟨.hbm, 419, rfl⟩
abbrev main_call7_call1_v8 : Ref sig .tc := ⟨.hbm, 420, rfl⟩
abbrev main_call7_call1_v9 : Ref sig .tc := ⟨.hbm, 421, rfl⟩
abbrev main_call7_call1_v10 : Ref sig .tc := ⟨.hbm, 422, rfl⟩
abbrev main_call7_call1_v11 : Ref sig .tc := ⟨.hbm, 423, rfl⟩
abbrev main_call7_call1_c_3 : Ref sig .tc := ⟨.hbm, 424, rfl⟩
abbrev main_call7_call1_v12 : Ref sig .tc := ⟨.hbm, 425, rfl⟩
abbrev main_call7_call1_v13 : Ref sig .tc := ⟨.hbm, 426, rfl⟩
abbrev main_call7_call1_v14 : Ref sig .tc := ⟨.hbm, 427, rfl⟩
abbrev main_call7_call1_cst : Ref sig .tc := ⟨.hbm, 428, rfl⟩
abbrev main_call7_call1_v15 : Ref sig .tc := ⟨.hbm, 429, rfl⟩
abbrev main_call7_v15 : Ref sig .tc := ⟨.hbm, 430, rfl⟩
abbrev main_call7_v16 : Ref sig .tc := ⟨.hbm, 431, rfl⟩
abbrev main_call7_v17 : Ref sig .tc := ⟨.hbm, 432, rfl⟩
abbrev main_call7_cst_2 : Ref sig .tc := ⟨.hbm, 433, rfl⟩
abbrev main_call7_v18 : Ref sig .tc := ⟨.hbm, 434, rfl⟩
abbrev main_call7_cst_3 : Ref sig .tc := ⟨.hbm, 435, rfl⟩
abbrev main_call7_v19 : Ref sig .tc := ⟨.hbm, 436, rfl⟩
abbrev main_v23_2 : Ref sig .tc := ⟨.hbm, 437, rfl⟩
abbrev main_call7_v21 : Ref sig .tc := ⟨.hbm, 438, rfl⟩
abbrev main_call7_v22 : Ref sig .tc := ⟨.hbm, 439, rfl⟩
abbrev main_v23_0 : Ref sig .tc := ⟨.hbm, 440, rfl⟩
abbrev main_v23_1 : Ref sig .tc := ⟨.hbm, 441, rfl⟩
abbrev main_v24 : Ref sig .tc := ⟨.hbm, 442, rfl⟩
abbrev main_v25 : Ref sig .tc := ⟨.hbm, 443, rfl⟩
abbrev main_call8_v0 : Ref sig .tc := ⟨.hbm, 444, rfl⟩
abbrev main_call8_cst : Ref sig .tc := ⟨.hbm, 445, rfl⟩
abbrev main_call8_v1 : Ref sig .tc := ⟨.hbm, 446, rfl⟩
abbrev main_call8_v2 : Ref sig .tc := ⟨.hbm, 447, rfl⟩
abbrev main_call8_cst_0 : Ref sig .tc := ⟨.hbm, 448, rfl⟩
abbrev main_call8_v3 : Ref sig .tc := ⟨.hbm, 449, rfl⟩
abbrev main_call8_v4 : Ref sig .tc := ⟨.hbm, 450, rfl⟩
abbrev main_call8_v5 : Ref sig .tc := ⟨.hbm, 451, rfl⟩
abbrev main_call8_v6 : Ref sig .tc := ⟨.hbm, 452, rfl⟩
abbrev main_call8_v7 : Ref sig .tc := ⟨.hbm, 453, rfl⟩
abbrev main_call8_v8 : Ref sig .tc := ⟨.hbm, 454, rfl⟩
abbrev main_call8_v9 : Ref sig .tc := ⟨.hbm, 455, rfl⟩
abbrev main_call8_cst_1 : Ref sig .tc := ⟨.hbm, 456, rfl⟩
abbrev main_call8_v10 : Ref sig .tc := ⟨.hbm, 457, rfl⟩
abbrev main_call8_v11 : Ref sig .tc := ⟨.hbm, 458, rfl⟩
abbrev main_call8_v12 : Ref sig .tc := ⟨.hbm, 459, rfl⟩
abbrev main_call8_v13 : Ref sig .tc := ⟨.hbm, 460, rfl⟩
abbrev main_call8_call0_v0 : Ref sig .tc := ⟨.hbm, 461, rfl⟩
abbrev main_call8_call0_cst : Ref sig .tc := ⟨.hbm, 462, rfl⟩
abbrev main_call8_call0_c : Ref sig .tc := ⟨.hbm, 463, rfl⟩
abbrev main_call8_call0_v1_0 : Ref sig .tc := ⟨.hbm, 464, rfl⟩
abbrev main_call8_v14 : Ref sig .tc := ⟨.hbm, 465, rfl⟩
abbrev main_call8_call1_c : Ref sig .tc := ⟨.hbm, 466, rfl⟩
abbrev main_call8_call1_v0 : Ref sig .tc := ⟨.hbm, 467, rfl⟩
abbrev main_call8_call1_v1 : Ref sig .tc := ⟨.hbm, 468, rfl⟩
abbrev main_call8_call1_c_0 : Ref sig .tc := ⟨.hbm, 469, rfl⟩
abbrev main_call8_call1_v2 : Ref sig .tc := ⟨.hbm, 470, rfl⟩
abbrev main_call8_call1_v3 : Ref sig .tc := ⟨.hbm, 471, rfl⟩
abbrev main_call8_call1_v4 : Ref sig .tc := ⟨.hbm, 472, rfl⟩
abbrev main_call8_call1_v5 : Ref sig .tc := ⟨.hbm, 473, rfl⟩
abbrev main_call8_call1_c_1 : Ref sig .tc := ⟨.hbm, 474, rfl⟩
abbrev main_call8_call1_c_2 : Ref sig .tc := ⟨.hbm, 475, rfl⟩
abbrev main_call8_call1_v6 : Ref sig .tc := ⟨.hbm, 476, rfl⟩
abbrev main_call8_call1_v7 : Ref sig .tc := ⟨.hbm, 477, rfl⟩
abbrev main_call8_call1_v8 : Ref sig .tc := ⟨.hbm, 478, rfl⟩
abbrev main_call8_call1_v9 : Ref sig .tc := ⟨.hbm, 479, rfl⟩
abbrev main_call8_call1_v10 : Ref sig .tc := ⟨.hbm, 480, rfl⟩
abbrev main_call8_call1_v11 : Ref sig .tc := ⟨.hbm, 481, rfl⟩
abbrev main_call8_call1_c_3 : Ref sig .tc := ⟨.hbm, 482, rfl⟩
abbrev main_call8_call1_v12 : Ref sig .tc := ⟨.hbm, 483, rfl⟩
abbrev main_call8_call1_v13 : Ref sig .tc := ⟨.hbm, 484, rfl⟩
abbrev main_call8_call1_v14 : Ref sig .tc := ⟨.hbm, 485, rfl⟩
abbrev main_call8_call1_cst : Ref sig .tc := ⟨.hbm, 486, rfl⟩
abbrev main_call8_call1_v15 : Ref sig .tc := ⟨.hbm, 487, rfl⟩
abbrev main_call8_v15 : Ref sig .tc := ⟨.hbm, 488, rfl⟩
abbrev main_call8_v16 : Ref sig .tc := ⟨.hbm, 489, rfl⟩
abbrev main_call8_v17 : Ref sig .tc := ⟨.hbm, 490, rfl⟩
abbrev main_call8_cst_2 : Ref sig .tc := ⟨.hbm, 491, rfl⟩
abbrev main_call8_v18 : Ref sig .tc := ⟨.hbm, 492, rfl⟩
abbrev main_call8_cst_3 : Ref sig .tc := ⟨.hbm, 493, rfl⟩
abbrev main_call8_v19 : Ref sig .tc := ⟨.hbm, 494, rfl⟩
abbrev main_v26_2 : Ref sig .tc := ⟨.hbm, 495, rfl⟩
abbrev main_call8_v21 : Ref sig .tc := ⟨.hbm, 496, rfl⟩
abbrev main_call8_v22 : Ref sig .tc := ⟨.hbm, 497, rfl⟩
abbrev main_v26_0 : Ref sig .tc := ⟨.hbm, 498, rfl⟩
abbrev main_v26_1 : Ref sig .tc := ⟨.hbm, 499, rfl⟩
abbrev main_v27 : Ref sig .tc := ⟨.hbm, 500, rfl⟩
abbrev main_cst_1 : Ref sig .tc := ⟨.hbm, 501, rfl⟩
abbrev main_v28 : Ref sig .tc := ⟨.hbm, 502, rfl⟩
abbrev main_call9_c : Ref sig .tc := ⟨.hbm, 503, rfl⟩
abbrev main_call9_call0_v0 : Ref sig .tc := ⟨.hbm, 504, rfl⟩
abbrev main_call9_v0 : Ref sig .tc := ⟨.hbm, 505, rfl⟩
abbrev main_call9_v1 : Ref sig .tc := ⟨.hbm, 506, rfl⟩
abbrev main_call9_v2 : Ref sig .tc := ⟨.hbm, 507, rfl⟩
abbrev main_call9_v3 : Ref sig .tc := ⟨.hbm, 508, rfl⟩
abbrev main_call9_v4 : Ref sig .tc := ⟨.hbm, 509, rfl⟩
abbrev main_call9_v5 : Ref sig .tc := ⟨.hbm, 510, rfl⟩
abbrev main_call9_cst : Ref sig .tc := ⟨.hbm, 511, rfl⟩
abbrev main_call9_v6 : Ref sig .tc := ⟨.hbm, 512, rfl⟩
abbrev main_call9_v7 : Ref sig .tc := ⟨.hbm, 513, rfl⟩
abbrev main_call9_v8 : Ref sig .tc := ⟨.hbm, 514, rfl⟩
abbrev main_call9_v9 : Ref sig .tc := ⟨.hbm, 515, rfl⟩
abbrev main_call9_v10 : Ref sig .tc := ⟨.hbm, 516, rfl⟩
abbrev main_call9_v11 : Ref sig .tc := ⟨.hbm, 517, rfl⟩
abbrev main_call9_v12 : Ref sig .tc := ⟨.hbm, 518, rfl⟩
abbrev main_call9_v13 : Ref sig .tc := ⟨.hbm, 519, rfl⟩
abbrev main_call9_v14 : Ref sig .tc := ⟨.hbm, 520, rfl⟩
abbrev main_call9_v15 : Ref sig .tc := ⟨.hbm, 521, rfl⟩
abbrev main_call9_v16 : Ref sig .tc := ⟨.hbm, 522, rfl⟩
abbrev main_call9_v17 : Ref sig .tc := ⟨.hbm, 523, rfl⟩
abbrev main_call9_v18 : Ref sig .tc := ⟨.hbm, 524, rfl⟩
abbrev main_call9_v19 : Ref sig .tc := ⟨.hbm, 525, rfl⟩
abbrev main_call9_v20 : Ref sig .tc := ⟨.hbm, 526, rfl⟩
abbrev main_call9_v21 : Ref sig .tc := ⟨.hbm, 527, rfl⟩
abbrev main_v29 : Ref sig .tc := ⟨.hbm, 528, rfl⟩

abbrev nD : Nat := 1
abbrev τ : Topo := Topo.v7x

variable {F : FTy → Type} [FloatOps F]
-- ==== Proof.KerStage.lean ====
module

public import proofs.«01_k».proof.Proof.Gen.KernelIdeal.Frame

/-! One quantisation stage of the kernel on half a block of rows, as functions of the stage's two codebook slabs and
    the rows' residual; and what a block's two outputs are as a chain of eight such stages. -/

@[expose] public section

set_option maxRecDepth 65536
set_option synthInstance.maxSize 4096

noncomputable section

namespace Cert.KerIdeal

open Idealize.ShloMosaic Idealize.SL.Sem Cert.KernelIdeal Cert.KernelIdeal.Gen

attribute [local instance] Cert.KernelIdeal.Gen.facts

variable {F : FTy → Type} [FloatOps F]

/-- Every entry's column number. -/
def columns : IVec S1024x1024 32 := iota .tc S1024x1024 32 [1] iota_S1024x1024_d1_w32

/-- A quarter of the squared lengths of the columns of a stage's scaled, transposed codebook. -/
def lengths (a : FVec F S256x1024 .f32) : FVec F S1x1024 .f32 :=
  mulf (broadcast S1x1024 (Scalar.ofBits .f32 0x3E800000#32))
    (shapeCast S1x1024
      (multiReduction .add [0] S1024 (mulf a a) 0x00000000#32 reduces_S256x1024_S1024 (.inl rfl) rfl) shapeCasts_S1024_S1x1024)

/-- The rows' distances to the codewords, less the rows' own squared lengths. -/
def scores (a : FVec F S256x1024 .f32) (r : FVec F S1024x256 .f32) : FVec F S1024x1024 .f32 :=
  addf
    (matmul dot_S1024x256_S256x1024_S1024x1024_1_0_0_1_n_n none (truncf .bf16 r bitsLt_bf16_f32)
      (truncf .bf16 a bitsLt_bf16_f32) (constant S1024x1024 .f32 0x00000000#32))
    (broadcastTo S1024x1024 (lengths a) broadcasts_S1x1024_S1024x1024)

/-- Each row's least distance, along the row. -/
def leastScore (d : FVec F S1024x1024 .f32) : FVec F S1024x1024 .f32 :=
  broadcastTo S1024x1024
    (shapeCast S1024x1
      (multiReduction .minimumf [1] S1024 d 0x7F800000#32 reduces_S1024x1024_S1024 (.inl rfl) rfl) shapeCasts_S1024_S1024x1)
    broadcasts_S1024x1_S1024x1024

/-- The first column at which a row is least, along the row. -/
def firstLeast (d : FVec F S1024x1024 .f32) : IVec S1024x1024 32 :=
  broadcastTo S1024x1024
    (shapeCast S1024x1
      (multiReductionI .minsi [1] S1024
        (select (cmpf .oeq d (leastScore d)) columns (broadcast S1024x1024 1024#32)) 2147483647#32
        reduces_S1024x1024_S1024 rfl) shapeCasts_S1024_S1024x1)
    broadcasts_S1024x1_S1024x1024

/-- The one-hot rows of the first least columns. -/
def oneHot (d : FVec F S1024x1024 .f32) : FVec F S1024x1024 .bf16 :=
  truncf .bf16 (sitofp .f32 (extui 32 (cmpi .eq columns (firstLeast d)) natLt_1_32)) bitsLt_bf16_f32

/-- The leading part of a codebook. -/
def high (b : FVec F S1024x256 .f32) : FVec F S1024x256 .bf16 := truncf .bf16 b bitsLt_bf16_f32

/-- What the leading part leaves. -/
def below (b : FVec F S1024x256 .f32) : FVec F S1024x256 .f32 := subf b (extf .f32 (high b) bitsLt_bf16_f32)

/-- A one-hot matrix times a part of the codebook. -/
def pick (o : FVec F S1024x1024 .bf16) (p : FVec F S1024x256 .bf16) : FVec F S1024x256 .f32 :=
  matmul dot_S1024x1024_S1024x256_S1024x256_1_0_0_1_n_n none o p (constant S1024x256 .f32 0x00000000#32)

/-- The chosen codewords: the one-hot matrix times the codebook's three parts. -/
def picked (o : FVec F S1024x1024 .bf16) (b : FVec F S1024x256 .f32) : FVec F S1024x256 .f32 :=
  addf (addf (pick o (high b)) (pick o (high (below b)))) (pick o (high (below (below b))))

/-- A stage's new residual. -/
def advance (A : Vec F S1x256x1024 .f32) (B : Vec F S1x1024x256 .f32) (r : FVec F S1024x256 .f32) : FVec F S1024x256 .f32 :=
  subf r (picked (oneHot (scores (shapeCast S256x1024 A shapeCasts_S1x256x1024_S256x1024) r))
    (shapeCast S1024x256 B shapeCasts_S1x1024x256_S1024x256))

/-- The sum of a half block's squares. -/
def squares (r : FVec F S1024x256 .f32) : FVec F S1x1 .f32 :=
  broadcast S1x1 (extractAt ![0, 0, 0]
    (shapeCast S1x1x1
      (multiReduction .add [1, 2] S1 (shapeCast S1x1024x256 (mulf r r) shapeCasts_S1024x256_S1x1024x256) 0x00000000#32
        reduces_S1x1024x256_S1 (.inl rfl) rfl) shapeCasts_S1_S1x1x1) inpos_S1x1x1_p0_0_0)

/-- A running sum with two half blocks' squares added. -/
def addSquares (l : FVec F S1x1 .f32) (r s : FVec F S1024x256 .f32) : FVec F S1x1 .f32 :=
  addf (addf l (squares r)) (squares s)

section Block

variable (x0 : Vec F S2048x3 .f32) (x1 : Vec F S3x256 .f32) (x2 : Vec F S1x256 .f32) (x3 : Vec F S256x3 .f32)
  (x4 : Vec F S8x256x1024 .f32) (x5 : Vec F S8x1024x256 .f32)

/-- The slab of scaled, transposed codewords a stage loads. -/
def slabT : Fin 8 → Vec F S1x256x1024 .f32 :=
  ![View.ld x4 r0_3, View.ld x4 r0_5, View.ld x4 r0_7, View.ld x4 r0_9, View.ld x4 r0_11, View.ld x4 r0_13,
    View.ld x4 r0_15, View.ld x4 r0_17]

/-- The slab of codewords a stage loads. -/
def slab : Fin 8 → Vec F S1x1024x256 .f32 :=
  ![View.ld x5 r0_4, View.ld x5 r0_6, View.ld x5 r0_8, View.ld x5 r0_10, View.ld x5 r0_12, View.ld x5 r0_14,
    View.ld x5 r0_16, View.ld x5 r0_18]

/-- The encoded rows of a block. -/
def encodedBlock : FVec F S2048x256 .f32 := k0_pay3 (View.ld x0 r0_0) (View.ld x1 r0_1) (View.ld x2 r0_2)

/-- The encoded rows of a block's first half. -/
def firstHalf (v : FVec F S2048x256 .f32) : FVec F S1024x256 .f32 :=
  extractStridedSlice S1024x256 ![0, 0] v slices_S2048x256_o0_0_S1024x256

/-- The encoded rows of a block's second half. -/
def secondHalf (v : FVec F S2048x256 .f32) : FVec F S1024x256 .f32 :=
  extractStridedSlice S1024x256 ![1024, 0] v slices_S2048x256_o1024_0_S1024x256

/-- A half block's residual after a number of stages. -/
def resid (r : FVec F S1024x256 .f32) : ℕ → FVec F S1024x256 .f32
  | 0 => r
  | k + 1 => advance (slabT x4 (Fin.ofNat 8 k)) (slab x5 (Fin.ofNat 8 k)) (resid r k)

/-- The residual of a block's first half after a number of stages. -/
def residA (k : ℕ) : FVec F S1024x256 .f32 := resid x4 x5 (firstHalf (encodedBlock x0 x1 x2)) k

/-- The residual of a block's second half after a number of stages. -/
def residB (k : ℕ) : FVec F S1024x256 .f32 := resid x4 x5 (secondHalf (encodedBlock x0 x1 x2)) k

/-- A block's sum of squares after a number of stages. -/
def lossSum : ℕ → FVec F S1x1 .f32
  | 0 => broadcast S1x1 (Scalar.ofBits .f32 0x00000000#32)
  | k + 1 => addSquares (lossSum k) (residA x0 x1 x2 x4 x5 (k + 1)) (residB x0 x1 x2 x4 x5 (k + 1))

theorem resA0 : k0_pay103 x0 x1 x2 x3 x4 x5 = residA x0 x1 x2 x4 x5 0 := rfl
theorem resB0 : k0_pay104 x0 x1 x2 x3 x4 x5 = residB x0 x1 x2 x4 x5 0 := rfl

theorem resA1 : k0_pay111 x0 x1 x2 x3 x4 x5 = residA x0 x1 x2 x4 x5 1 :=
  Eq.trans (b := advance (slabT x4 0) (slab x5 0) (k0_pay103 x0 x1 x2 x3 x4 x5)) rfl (congrArg (advance (slabT x4 0) (slab x5 0)) (resA0 x0 x1 x2 x3 x4 x5))
theorem resB1 : k0_pay112 x0 x1 x2 x3 x4 x5 = residB x0 x1 x2 x4 x5 1 :=
  Eq.trans (b := advance (slabT x4 0) (slab x5 0) (k0_pay104 x0 x1 x2 x3 x4 x5)) rfl (congrArg (advance (slabT x4 0) (slab x5 0)) (resB0 x0 x1 x2 x3 x4 x5))

theorem resA2 : k0_pay28 (k0_pay111 x0 x1 x2 x3 x4 x5) (k0_pay118 x0 x1 x2 x3 x4 x5) = residA x0 x1 x2 x4 x5 2 :=
  Eq.trans (b := advance (slabT x4 1) (slab x5 1) (k0_pay111 x0 x1 x2 x3 x4 x5)) rfl (congrArg (advance (slabT x4 1) (slab x5 1)) (resA1 x0 x1 x2 x3 x4 x5))
theorem resB2 : k0_pay119 x0 x1 x2 x3 x4 x5 = residB x0 x1 x2 x4 x5 2 :=
  Eq.trans (b := advance (slabT x4 1) (slab x5 1) (k0_pay112 x0 x1 x2 x3 x4 x5)) rfl (congrArg (advance (slabT x4 1) (slab x5 1)) (resB1 x0 x1 x2 x3 x4 x5))

theorem resA3 : k0_pay126 x0 x1 x2 x3 x4 x5 = residA x0 x1 x2 x4 x5 3 :=
  Eq.trans (b := advance (slabT x4 2) (slab x5 2) (k0_pay28 (k0_pay111 x0 x1 x2 x3 x4 x5) (k0_pay118 x0 x1 x2 x3 x4 x5))) rfl (congrArg (advance (slabT x4 2) (slab x5 2)) (resA2 x0 x1 x2 x3 x4 x5))
theorem resB3 : k0_pay41 (k0_pay102 x0 x1 x2 x3 x4 x5) (k0_pay119 x0 x1 x2 x3 x4 x5) (k0_pay123 x0 x1 x2 x3 x4 x5) (k0_pay124 x0 x1 x2 x3 x4 x5) (k0_pay125 x0 x1 x2 x3 x4 x5) (k0_pay127 x0 x1 x2 x3 x4 x5) = residB x0 x1 x2 x4 x5 3 :=
  Eq.trans (b := advance (slabT x4 2) (slab x5 2) (k0_pay119 x0 x1 x2 x3 x4 x5)) rfl (congrArg (advance (slabT x4 2) (slab x5 2)) (resB2 x0 x1 x2 x3 x4 x5))

theorem resA4 : k0_pay132 x0 x1 x2 x3 x4 x5 = residA x0 x1 x2 x4 x5 4 :=
  Eq.trans (b := advance (slabT x4 3) (slab x5 3) (k0_pay126 x0 x1 x2 x3 x4 x5)) rfl (congrArg (advance (slabT x4 3) (slab x5 3)) (resA3 x0 x1 x2 x3 x4 x5))
theorem resB4 : k0_pay133 x0 x1 x2 x3 x4 x5 = residB x0 x1 x2 x4 x5 4 :=
  Eq.trans (b := advance (slabT x4 3) (slab x5 3) (k0_pay41 (k0_pay102 x0 x1 x2 x3 x4 x5) (k0_pay119 x0 x1 x2 x3 x4 x5) (k0_pay123 x0 x1 x2 x3 x4 x5) (k0_pay124 x0 x1 x2 x3 x4 x5) (k0_pay125 x0 x1 x2 x3 x4 x5) (k0_pay127 x0 x1 x2 x3 x4 x5))) rfl (congrArg (advance (slabT x4 3) (slab x5 3)) (resB3 x0 x1 x2 x3 x4 x5))

theorem resA5 : k0_pay64 (k0_pay132 x0 x1 x2 x3 x4 x5) (k0_pay137 x0 x1 x2 x3 x4 x5) (k0_pay138 x0 x1 x2 x3 x4 x5) (k0_pay139 x0 x1 x2 x3 x4 x5) (k0_pay140 x0 x1 x2 x3 x4 x5) = residA x0 x1 x2 x4 x5 5 :=
  Eq.trans (b := advance (slabT x4 4) (slab x5 4) (k0_pay132 x0 x1 x2 x3 x4 x5)) rfl (congrArg (advance (slabT x4 4) (slab x5 4)) (resA4 x0 x1 x2 x3 x4 x5))
theorem resB5 : k0_pay141 x0 x1 x2 x3 x4 x5 = residB x0 x1 x2 x4 x5 5 :=
  Eq.trans (b := advance (slabT x4 4) (slab x5 4) (k0_pay133 x0 x1 x2 x3 x4 x5)) rfl (congrArg (advance (slabT x4 4) (slab x5 4)) (resB4 x0 x1 x2 x3 x4 x5))

theorem resA6 : k0_pay146 x0 x1 x2 x3 x4 x5 = residA x0 x1 x2 x4 x5 6 :=
  Eq.trans (b := advance (slabT x4 5) (slab x5 5) (k0_pay64 (k0_pay132 x0 x1 x2 x3 x4 x5) (k0_pay137 x0 x1 x2 x3 x4 x5) (k0_pay138 x0 x1 x2 x3 x4 x5) (k0_pay139 x0 x1 x2 x3 x4 x5) (k0_pay140 x0 x1 x2 x3 x4 x5))) rfl (congrArg (advance (slabT x4 5) (slab x5 5)) (resA5 x0 x1 x2 x3 x4 x5))
theorem resB6 : k0_pay148 x0 x1 x2 x3 x4 x5 = residB x0 x1 x2 x4 x5 6 :=
  Eq.trans (b := advance (slabT x4 5) (slab x5 5) (k0_pay141 x0 x1 x2 x3 x4 x5)) rfl (congrArg (advance (slabT x4 5) (slab x5 5)) (resB5 x0 x1 x2 x3 x4 x5))

theorem resA7 : k0_pay154 x0 x1 x2 x3 x4 x5 = residA x0 x1 x2 x4 x5 7 :=
  Eq.trans (b := advance (slabT x4 6) (slab x5 6) (k0_pay146 x0 x1 x2 x3 x4 x5)) rfl (congrArg (advance (slabT x4 6) (slab x5 6)) (resA6 x0 x1 x2 x3 x4 x5))
theorem resB7 : k0_pay157 x0 x1 x2 x3 x4 x5 = residB x0 x1 x2 x4 x5 7 :=
  Eq.trans (b := advance (slabT x4 6) (slab x5 6) (k0_pay148 x0 x1 x2 x3 x4 x5)) rfl (congrArg (advance (slabT x4 6) (slab x5 6)) (resB6 x0 x1 x2 x3 x4 x5))

theorem resA8 : k0_pay99 (k0_pay102 x0 x1 x2 x3 x4 x5) (k0_pay154 x0 x1 x2 x3 x4 x5) (k0_pay160 x0 x1 x2 x3 x4 x5) (k0_pay161 x0 x1 x2 x3 x4 x5) (k0_pay162 x0 x1 x2 x3 x4 x5) (k0_pay163 x0 x1 x2 x3 x4 x5) = residA x0 x1 x2 x4 x5 8 :=
  Eq.trans (b := advance (slabT x4 7) (slab x5 7) (k0_pay154 x0 x1 x2 x3 x4 x5)) rfl (congrArg (advance (slabT x4 7) (slab x5 7)) (resA7 x0 x1 x2 x3 x4 x5))
theorem resB8 : k0_pay100 (k0_pay102 x0 x1 x2 x3 x4 x5) (k0_pay157 x0 x1 x2 x3 x4 x5) (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5) = residB x0 x1 x2 x4 x5 8 :=
  Eq.trans (b := advance (slabT x4 7) (slab x5 7) (k0_pay157 x0 x1 x2 x3 x4 x5)) rfl (congrArg (advance (slabT x4 7) (slab x5 7)) (resB7 x0 x1 x2 x3 x4 x5))

/-! The running sum, one stage at a time. -/

theorem loss1 (l : FVec F S1x1 .f32) : k0_pay19 (k0_pay17 l (k0_pay102 x0 x1 x2 x3 x4 x5) (k0_pay103 x0 x1 x2 x3 x4 x5) (k0_pay107 x0 x1 x2 x3 x4 x5) (k0_pay108 x0 x1 x2 x3 x4 x5) (k0_pay109 x0 x1 x2 x3 x4 x5) (k0_pay110 x0 x1 x2 x3 x4 x5) 1024#32) (k0_pay18 (k0_pay102 x0 x1 x2 x3 x4 x5) (k0_pay104 x0 x1 x2 x3 x4 x5) (k0_pay105 x0 x1 x2 x3 x4 x5) (k0_pay106 x0 x1 x2 x3 x4 x5) (k0_pay107 x0 x1 x2 x3 x4 x5) (k0_pay108 x0 x1 x2 x3 x4 x5) (k0_pay109 x0 x1 x2 x3 x4 x5)) =
    addSquares l (k0_pay111 x0 x1 x2 x3 x4 x5) (k0_pay112 x0 x1 x2 x3 x4 x5) := rfl
theorem loss2 (l : FVec F S1x1 .f32) : k0_pay30 (k0_pay102 x0 x1 x2 x3 x4 x5) (k0_pay111 x0 x1 x2 x3 x4 x5) (k0_pay112 x0 x1 x2 x3 x4 x5) l (k0_pay113 x0 x1 x2 x3 x4 x5) (k0_pay114 x0 x1 x2 x3 x4 x5) (k0_pay115 x0 x1 x2 x3 x4 x5) (k0_pay116 x0 x1 x2 x3 x4 x5) (k0_pay117 x0 x1 x2 x3 x4 x5) (k0_pay118 x0 x1 x2 x3 x4 x5) =
    addSquares l (k0_pay28 (k0_pay111 x0 x1 x2 x3 x4 x5) (k0_pay118 x0 x1 x2 x3 x4 x5)) (k0_pay119 x0 x1 x2 x3 x4 x5) := rfl
theorem loss3 (l : FVec F S1x1 .f32) : k0_pay42 (k0_pay102 x0 x1 x2 x3 x4 x5) (k0_pay119 x0 x1 x2 x3 x4 x5) l (k0_pay123 x0 x1 x2 x3 x4 x5) (k0_pay124 x0 x1 x2 x3 x4 x5) (k0_pay125 x0 x1 x2 x3 x4 x5) (k0_pay126 x0 x1 x2 x3 x4 x5) (k0_pay127 x0 x1 x2 x3 x4 x5) =
    addSquares l (k0_pay126 x0 x1 x2 x3 x4 x5) (k0_pay41 (k0_pay102 x0 x1 x2 x3 x4 x5) (k0_pay119 x0 x1 x2 x3 x4 x5) (k0_pay123 x0 x1 x2 x3 x4 x5) (k0_pay124 x0 x1 x2 x3 x4 x5) (k0_pay125 x0 x1 x2 x3 x4 x5) (k0_pay127 x0 x1 x2 x3 x4 x5)) := rfl
theorem loss4 (l : FVec F S1x1 .f32) : k0_pay54 l (k0_pay133 x0 x1 x2 x3 x4 x5) (k0_pay53 (k0_pay102 x0 x1 x2 x3 x4 x5) (k0_pay126 x0 x1 x2 x3 x4 x5) (k0_pay128 x0 x1 x2 x3 x4 x5) (k0_pay129 x0 x1 x2 x3 x4 x5) (k0_pay130 x0 x1 x2 x3 x4 x5) (k0_pay131 x0 x1 x2 x3 x4 x5)) =
    addSquares l (k0_pay132 x0 x1 x2 x3 x4 x5) (k0_pay133 x0 x1 x2 x3 x4 x5) := rfl
theorem loss5 (l : FVec F S1x1 .f32) : k0_pay66 (k0_pay102 x0 x1 x2 x3 x4 x5) (k0_pay132 x0 x1 x2 x3 x4 x5) (k0_pay133 x0 x1 x2 x3 x4 x5) l (k0_pay134 x0 x1 x2 x3 x4 x5) (k0_pay135 x0 x1 x2 x3 x4 x5) (k0_pay136 x0 x1 x2 x3 x4 x5) (k0_pay137 x0 x1 x2 x3 x4 x5) (k0_pay138 x0 x1 x2 x3 x4 x5) (k0_pay139 x0 x1 x2 x3 x4 x5) (k0_pay140 x0 x1 x2 x3 x4 x5) =
    addSquares l (k0_pay64 (k0_pay132 x0 x1 x2 x3 x4 x5) (k0_pay137 x0 x1 x2 x3 x4 x5) (k0_pay138 x0 x1 x2 x3 x4 x5) (k0_pay139 x0 x1 x2 x3 x4 x5) (k0_pay140 x0 x1 x2 x3 x4 x5)) (k0_pay141 x0 x1 x2 x3 x4 x5) := rfl
theorem loss6 (l : FVec F S1x1 .f32) : k0_pay77 (k0_pay102 x0 x1 x2 x3 x4 x5) (k0_pay141 x0 x1 x2 x3 x4 x5) l (k0_pay143 x0 x1 x2 x3 x4 x5) (k0_pay144 x0 x1 x2 x3 x4 x5) (k0_pay145 x0 x1 x2 x3 x4 x5) (k0_pay146 x0 x1 x2 x3 x4 x5) (k0_pay147 x0 x1 x2 x3 x4 x5) =
    addSquares l (k0_pay146 x0 x1 x2 x3 x4 x5) (k0_pay148 x0 x1 x2 x3 x4 x5) := rfl
theorem loss7 (l : FVec F S1x1 .f32) : k0_pay90 (k0_pay148 x0 x1 x2 x3 x4 x5) l (k0_pay154 x0 x1 x2 x3 x4 x5) (k0_pay155 x0 x1 x2 x3 x4 x5) (k0_pay156 x0 x1 x2 x3 x4 x5) =
    addSquares l (k0_pay154 x0 x1 x2 x3 x4 x5) (k0_pay157 x0 x1 x2 x3 x4 x5) := rfl
theorem loss8 (l : FVec F S1x1 .f32) : k0_pay101 (k0_pay102 x0 x1 x2 x3 x4 x5) (k0_pay154 x0 x1 x2 x3 x4 x5) (k0_pay157 x0 x1 x2 x3 x4 x5) l (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5) (k0_pay163 x0 x1 x2 x3 x4 x5) =
    addSquares l (k0_pay99 (k0_pay102 x0 x1 x2 x3 x4 x5) (k0_pay154 x0 x1 x2 x3 x4 x5) (k0_pay160 x0 x1 x2 x3 x4 x5) (k0_pay161 x0 x1 x2 x3 x4 x5) (k0_pay162 x0 x1 x2 x3 x4 x5) (k0_pay163 x0 x1 x2 x3 x4 x5)) (k0_pay100 (k0_pay102 x0 x1 x2 x3 x4 x5) (k0_pay157 x0 x1 x2 x3 x4 x5) (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5)) := rfl

theorem lossEnd : k0_pay101 (k0_pay102 x0 x1 x2 x3 x4 x5) (k0_pay154 x0 x1 x2 x3 x4 x5) (k0_pay157 x0 x1 x2 x3 x4 x5) (k0_pay90 (k0_pay148 x0 x1 x2 x3 x4 x5) (k0_pay77 (k0_pay102 x0 x1 x2 x3 x4 x5) (k0_pay141 x0 x1 x2 x3 x4 x5) (k0_pay66 (k0_pay102 x0 x1 x2 x3 x4 x5) (k0_pay132 x0 x1 x2 x3 x4 x5) (k0_pay133 x0 x1 x2 x3 x4 x5) (k0_pay54 (k0_pay42 (k0_pay102 x0 x1 x2 x3 x4 x5) (k0_pay119 x0 x1 x2 x3 x4 x5) (k0_pay30 (k0_pay102 x0 x1 x2 x3 x4 x5) (k0_pay111 x0 x1 x2 x3 x4 x5) (k0_pay112 x0 x1 x2 x3 x4 x5) (k0_pay19 (k0_pay17 (k0_pay4 (F := F)) (k0_pay102 x0 x1 x2 x3 x4 x5) (k0_pay103 x0 x1 x2 x3 x4 x5) (k0_pay107 x0 x1 x2 x3 x4 x5) (k0_pay108 x0 x1 x2 x3 x4 x5) (k0_pay109 x0 x1 x2 x3 x4 x5) (k0_pay110 x0 x1 x2 x3 x4 x5) 1024#32) (k0_pay18 (k0_pay102 x0 x1 x2 x3 x4 x5) (k0_pay104 x0 x1 x2 x3 x4 x5) (k0_pay105 x0 x1 x2 x3 x4 x5) (k0_pay106 x0 x1 x2 x3 x4 x5) (k0_pay107 x0 x1 x2 x3 x4 x5) (k0_pay108 x0 x1 x2 x3 x4 x5) (k0_pay109 x0 x1 x2 x3 x4 x5))) (k0_pay113 x0 x1 x2 x3 x4 x5) (k0_pay114 x0 x1 x2 x3 x4 x5) (k0_pay115 x0 x1 x2 x3 x4 x5) (k0_pay116 x0 x1 x2 x3 x4 x5) (k0_pay117 x0 x1 x2 x3 x4 x5) (k0_pay118 x0 x1 x2 x3 x4 x5)) (k0_pay123 x0 x1 x2 x3 x4 x5) (k0_pay124 x0 x1 x2 x3 x4 x5) (k0_pay125 x0 x1 x2 x3 x4 x5) (k0_pay126 x0 x1 x2 x3 x4 x5) (k0_pay127 x0 x1 x2 x3 x4 x5)) (k0_pay133 x0 x1 x2 x3 x4 x5) (k0_pay53 (k0_pay102 x0 x1 x2 x3 x4 x5) (k0_pay126 x0 x1 x2 x3 x4 x5) (k0_pay128 x0 x1 x2 x3 x4 x5) (k0_pay129 x0 x1 x2 x3 x4 x5) (k0_pay130 x0 x1 x2 x3 x4 x5) (k0_pay131 x0 x1 x2 x3 x4 x5))) (k0_pay134 x0 x1 x2 x3 x4 x5) (k0_pay135 x0 x1 x2 x3 x4 x5) (k0_pay136 x0 x1 x2 x3 x4 x5) (k0_pay137 x0 x1 x2 x3 x4 x5) (k0_pay138 x0 x1 x2 x3 x4 x5) (k0_pay139 x0 x1 x2 x3 x4 x5) (k0_pay140 x0 x1 x2 x3 x4 x5)) (k0_pay143 x0 x1 x2 x3 x4 x5) (k0_pay144 x0 x1 x2 x3 x4 x5) (k0_pay145 x0 x1 x2 x3 x4 x5) (k0_pay146 x0 x1 x2 x3 x4 x5) (k0_pay147 x0 x1 x2 x3 x4 x5)) (k0_pay154 x0 x1 x2 x3 x4 x5) (k0_pay155 x0 x1 x2 x3 x4 x5) (k0_pay156 x0 x1 x2 x3 x4 x5)) (k0_pay158 x0 x1 x2 x3 x4 x5) (k0_pay159 x0 x1 x2 x3 x4 x5) (k0_pay160 x0 x1 x2 x3 x4 x5) (k0_pay161 x0 x1 x2 x3 x4 x5) (k0_pay162 x0 x1 x2 x3 x4 x5) (k0_pay163 x0 x1 x2 x3 x4 x5) =
    lossSum x0 x1 x2 x4 x5 8 := by
  rw [loss1, loss2, loss3, loss4, loss5, loss6, loss7, loss8,
    resA8, resB8, resA7, resB7, resA6, resB6, resA5, resB5, resA4, resB4, resA3, resB3, resA2, resB2, resA1, resB1]
  rfl

/-- The decoded rows of a block, from its encoded rows, its two halves' last residuals and the decoder's weights. -/
def decodeBlock (v : FVec F S2048x256 .f32) (r s : FVec F S1024x256 .f32) (w : Vec F S256x3 .f32) : FVec F S2048x3 .f32 :=
  matmul dot_S2048x256_S256x3_S2048x3_1_0_0_1_n_n (some .fp32)
    (subf v (concatenate S2048x256 0 [⟨S1024x256, r⟩, ⟨S1024x256, s⟩] concatenates_S1024x256_S1024x256_S2048x256_d0))
    (shapeCast S256x3 w shapeCasts_S256x3_S256x3) (constant S2048x3 .f32 0x00000000#32)

/-- What a block's first output is. -/
theorem out_rows : out0_6 x0 x1 x2 x3 x4 x5 = View.canon [⟨r0_0, decodeBlock (encodedBlock x0 x1 x2) (residA x0 x1 x2 x4 x5 8)
    (residB x0 x1 x2 x4 x5 8) (View.ld x3 r0_19)⟩] := by
  unfold out0_6
  rw [resA8, resB8]
  rfl

/-- What a block's second output is. -/
theorem out_loss : out0_7 x0 x1 x2 x3 x4 x5 = View.canon [⟨r0_20, shapeCast S1x1x1 (lossSum x0 x1 x2 x4 x5 8) shapeCasts_S1x1_S1x1x1⟩] := by
  unfold out0_7
  rw [lossEnd]
  rfl

end Block

end Cert.KerIdeal
-- ==== Proof.Nearest.lean ====
module

public import Idealize.ShloMosaic.Lib.ValueIdx
public import Idealize.ShloMosaic.Lib.Pointwise
public import Idealize.ShloMosaic.PureOps.Ideal.Laws
public import Idealize.ShloMosaic.Lib.SortNet.Extract

/-! The nearest codeword over the reals: the first index at which a finite family is least, the residual quantiser's
    recursion, and what folds and sums of extended reals are at families of reals. -/

@[expose] public section

noncomputable section

namespace Cert.Nearest

open Idealize.ShloMosaic

/-- The bit pattern of plus infinity. -/
theorem ofBits_top : Ideal.ofBits .f32 0x7F800000#32 = ⊤ := by simp [Ideal.ofBits, Ideal.ieee]

variable {n : ℕ} [NeZero n]

theorem least_nonempty (f : Fin n → ℝ) : (Finset.univ.filter fun k => ∀ j, f k ≤ f j).Nonempty := by
  obtain ⟨k, hk⟩ := Finite.exists_min f
  exact ⟨k, by simpa using hk⟩

/-- The first index at which a family is least. -/
def amin (f : Fin n → ℝ) : Fin n := (Finset.univ.filter fun k => ∀ j, f k ≤ f j).min' (least_nonempty f)

theorem amin_le (f : Fin n → ℝ) (j : Fin n) : f (amin f) ≤ f j :=
  (Finset.mem_filter.1 (Finset.min'_mem _ (least_nonempty f))).2 j

theorem amin_le_of_least (f : Fin n → ℝ) (k : Fin n) (hk : ∀ j, f k ≤ f j) : amin f ≤ k :=
  Finset.min'_le _ _ (Finset.mem_filter.2 ⟨Finset.mem_univ _, hk⟩)

theorem amin_first (f : Fin n → ℝ) (j : Fin n) (hj : f j = f (amin f)) : amin f ≤ j :=
  amin_le_of_least f j fun i => hj ▸ amin_le f i

theorem amin_unique (f : Fin n → ℝ) (k : Fin n) (h : ∀ j, f k ≤ f j) (h' : ∀ j, f j = f k → k ≤ j) : amin f = k :=
  le_antisymm (amin_le_of_least f k h) (h' _ (le_antisymm (amin_le f k) (h _)))

/-- Adding a constant to a family moves no minimum. -/
theorem amin_add (c : ℝ) (f g : Fin n → ℝ) (h : ∀ k, g k = c + f k) : amin g = amin f := by
  refine amin_unique g _ (fun j => ?_) (fun j hj => amin_first f j ?_)
  · rw [h, h]; exact add_le_add_right (amin_le f j) c
  · rw [h, h] at hj; exact add_left_cancel hj

/-- The least value over the extended reals. -/
theorem fold_min_coe (f : Fin n → ℝ) :
    (Finset.univ : Finset (Fin n)).fold min (⊤ : EReal) (fun k => (f k : EReal)) = ((f (amin f) : ℝ) : EReal) := by
  refine le_antisymm ((Finset.fold_min_le _).2 (Or.inr ⟨amin f, Finset.mem_univ _, le_rfl⟩))
    ((Finset.le_fold_min _).2 ⟨le_top, fun k _ => EReal.coe_le_coe_iff.2 (amin_le f k)⟩)

/-- A fold of the signed minimum is at most every word met, and is the start or one of them. -/
theorem fold_minsi_spec (g : Fin n → BitVec 32) (s : Finset (Fin n)) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl Finset.fold_empty⟩
  | insert a s ha ih =>
    rw [Finset.fold_insert ha]
    refine ⟨fun i hi => ?_, ?_⟩
    · rw [SortNet.toInt_minsi]
      rcases Finset.mem_insert.1 hi with rfl | hi
      · exact min_le_left _ _
      · exact (min_le_right _ _).trans (ih.1 i hi)
    · rcases (show IntOp.minsi (g a) (s.fold IntOp.minsi init g) = g a ∨
          IntOp.minsi (g a) (s.fold IntOp.minsi init g) = s.fold IntOp.minsi init g by
        unfold IntOp.minsi; split
        · exact Or.inl rfl
        · exact Or.inr rfl) with h | h
      · exact Or.inr ⟨a, Finset.mem_insert_self _ _, h⟩
      · rcases ih.2 with h' | ⟨i, hi, h'⟩
        · exact Or.inl (h.trans h')
        · exact Or.inr ⟨i, Finset.mem_insert_of_mem hi, h.trans h'⟩

theorem toInt_small (k : ℕ) (hk : k ≤ 1024) : (BitVec.ofNat 32 k).toInt = k := by
  have h : k % 2 ^ 32 = k := Nat.mod_eq_of_lt (by omega)
  rw [BitVec.toInt_eq_toNat_cond, BitVec.toNat_ofNat, h, if_pos (by omega)]

/-- The least of the numbers of the places where a family is least, every other place counting 1024. -/
theorem fold_first (f : Fin 1024 → ℝ) (g : Fin 1024 → BitVec 32)
    (hg : ∀ k, g k = if f k = f (amin f) then BitVec.ofNat 32 k.val else 1024#32) :
    (Finset.univ : Finset (Fin 1024)).fold IntOp.minsi 2147483647#32 g = BitVec.ofNat 32 (amin f).val := by
  obtain ⟨h, h'⟩ := fold_minsi_spec g Finset.univ 2147483647#32
  have hm := h (amin f) (Finset.mem_univ _)
  rw [hg (amin f), if_pos rfl, toInt_small _ (amin f).isLt.le] at hm
  have hlt := (amin f).isLt
  rcases h' with h' | ⟨k, -, h'⟩
  · rw [h', show (2147483647#32).toInt = 2147483647 from by decide] at hm; omega
  · rw [h', hg k] at hm ⊢
    by_cases e : f k = f (amin f)
    · rw [if_pos e] at hm ⊢
      rw [toInt_small _ k.isLt.le] at hm
      have := amin_first f k e
      rw [show k = amin f from le_antisymm (by exact_mod_cast hm) this]
    · rw [if_neg e, show (1024#32).toInt = 1024 from by decide] at hm; omega

/-- A finite sum of reals, among the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The index of the codeword nearest to a row. -/
def best (C : Fin 1024 → Fin 256 → ℝ) (v : Fin 256 → ℝ) : Fin 1024 :=
  amin fun k => ∑ d, C k d * C k d - 2 * ∑ d, v d * C k d

/-- What a stage leaves of a row. -/
def step (C : Fin 1024 → Fin 256 → ℝ) (v : Fin 256 → ℝ) : Fin 256 → ℝ := fun d => v d - C (best C v) d

/-- What is left of a row after a number of stages. -/
def rest (C : Fin 8 → Fin 1024 → Fin 256 → ℝ) (v : Fin 256 → ℝ) : ℕ → Fin 256 → ℝ
  | 0 => v
  | k + 1 => step (C (Fin.ofNat 8 k)) (rest C v k)

end Cert.Nearest
-- ==== Proof.KerMean.lean ====
module

public import proofs.«01_k».proof.Proof.KerStage
public import proofs.«01_k».proof.Proof.Nearest

/-! What one stage of the kernel computes at an entry, when the residual and the codebook are real numbers. -/

@[expose] public section

set_option maxRecDepth 65536
set_option synthInstance.maxSize 4096

noncomputable section

namespace Cert.KerIdeal

open Idealize.ShloMosaic Cert.KernelIdeal Cert.KernelIdeal.Gen Cert.Nearest

/-- The bit pattern of a quarter. -/
theorem ofBits_quarter : Ideal.ofBits .f32 0x3E800000#32 = ((1 / 4 : ℝ) : EReal) := by
  simp [Ideal.ofBits, Ideal.ieee]
  norm_num
  rw [← EReal.coe_mul]
  norm_num

theorem sub_self_coe (c : ℝ) : (c : EReal) - (c : EReal) = 0 := by
  rw [← EReal.coe_sub, sub_self, EReal.coe_zero]

/-- The least distance of a row of real distances. -/
theorem leastScore_coe (d : FVec Ideal S1024x1024 .f32) (f : Fin 1024 → ℝ) (i k : Fin 1024)
    (hd : ∀ k, d (ix2 i k) = ((f k : ℝ) : EReal)) : leastScore d (ix2 i k) = ((f (amin f) : ℝ) : EReal) := by
  pointwise [leastScore]
  simp only [hd, ofBits_top]
  exact fold_min_coe f

/-- The first least column of a row of real distances. -/
theorem firstLeast_coe (d : FVec Ideal S1024x1024 .f32) (f : Fin 1024 → ℝ) (i k : Fin 1024)
    (hd : ∀ k, d (ix2 i k) = ((f k : ℝ) : EReal)) : firstLeast d (ix2 i k) = BitVec.ofNat 32 (amin f).val := by
  pointwise [firstLeast, columns]
  refine fold_first f _ fun x => ?_
  simp only [leastScore_coe d f i _ hd, hd, EReal.coe_eq_coe_iff]

/-- The one-hot row of a row of real distances. -/
theorem oneHot_coe (d : FVec Ideal S1024x1024 .f32) (f : Fin 1024 → ℝ) (i k : Fin 1024)
    (hd : ∀ k, d (ix2 i k) = ((f k : ℝ) : EReal)) : oneHot d (ix2 i k) = if k = amin f then 1 else 0 := by
  pointwise [oneHot, columns]
  rw [firstLeast_coe d f i k hd]
  by_cases h : k = amin f
  · rw [if_pos h, h]
    simp only [IntOp.cmpi, beq_self_eq_true]
    show (((BitVec.setWidth 32 (BitVec.ofBool true)).toInt : ℝ) : EReal) = 1
    rw [show (BitVec.setWidth 32 (BitVec.ofBool true)).toInt = 1 from by decide, Int.cast_one, EReal.coe_one]
  · rw [if_neg h]
    have : BitVec.ofNat 32 k.val ≠ BitVec.ofNat 32 (amin f).val := fun e => h (Fin.ext (by
      have := congrArg BitVec.toInt e
      rw [toInt_small _ k.isLt.le, toInt_small _ (amin f).isLt.le] at this
      exact_mod_cast this))
    simp only [IntOp.cmpi, beq_eq_false_iff_ne.2 this]
    show (((BitVec.setWidth 32 (BitVec.ofBool false)).toInt : ℝ) : EReal) = 0
    rw [show (BitVec.setWidth 32 (BitVec.ofBool false)).toInt = 0 from by decide, Int.cast_zero, EReal.coe_zero]

/-- The distances of a row of reals to real codewords. -/
theorem scores_coe (a : FVec Ideal S256x1024 .f32) (r : FVec Ideal S1024x256 .f32) (C : Fin 1024 → Fin 256 → ℝ)
    (v : Fin 256 → ℝ) (i k : Fin 1024) (ha : ∀ d k, a (ix2 d k) = ((-2 * C k d : ℝ) : EReal))
    (hr : ∀ d, r (ix2 i d) = ((v d : ℝ) : EReal)) :
    scores a r (ix2 i k) = ((∑ d, C k d * C k d - 2 * ∑ d, v d * C k d : ℝ) : EReal) := by
  pointwise [scores, lengths]
  simp only [ha, hr, ofBits_quarter, ← EReal.coe_mul, coe_sum, ← EReal.coe_add]
  congr 1
  rw [Finset.mul_sum, Finset.mul_sum, ← Finset.sum_add_distrib, ← Finset.sum_sub_distrib]
  exact Finset.sum_congr rfl fun d _ => by ring

/-- The codeword a one-hot row picks. -/
theorem picked_coe (o : FVec Ideal S1024x1024 .bf16) (b : FVec Ideal S1024x256 .f32) (C : Fin 1024 → Fin 256 → ℝ)
    (i : Fin 1024) (d : Fin 256) (m : Fin 1024) (ho : ∀ k, o (ix2 i k) = if k = m then 1 else 0)
    (hb : ∀ k, b (ix2 k d) = ((C k d : ℝ) : EReal)) : picked o b (ix2 i d) = ((C m d : ℝ) : EReal) := by
  pointwise [picked, pick, high, below]
  simp only [ho, hb, sub_self_coe, sub_zero, mul_zero, Finset.sum_const_zero, add_zero, ite_mul, one_mul, zero_mul,
    Finset.sum_ite_eq', Finset.mem_univ, if_true]

/-- A stage of the kernel on a row of reals. -/
theorem advance_coe (A : Vec Ideal S1x256x1024 .f32) (B : Vec Ideal S1x1024x256 .f32) (r : FVec Ideal S1024x256 .f32)
    (C : Fin 1024 → Fin 256 → ℝ) (v : Fin 256 → ℝ) (i : Fin 1024) (d : Fin 256)
    (hA : ∀ d k, A (ix3 0 d k) = ((-2 * C k d : ℝ) : EReal)) (hB : ∀ k d, B (ix3 0 k d) = ((C k d : ℝ) : EReal))
    (hr : ∀ d, r (ix2 i d) = ((v d : ℝ) : EReal)) : advance A B r (ix2 i d) = ((step C v d : ℝ) : EReal) := by
  have h1 : picked (oneHot (scores (shapeCast S256x1024 A shapeCasts_S1x256x1024_S256x1024) r))
      (shapeCast S1024x256 B shapeCasts_S1x1024x256_S1024x256) (ix2 i d) = ((C (best C v) d : ℝ) : EReal) := by
    refine picked_coe _ _ C i d _ (fun k => oneHot_coe _ _ i k fun k => scores_coe _ r C v i k (fun d k => ?_) hr) fun k => ?_
    · pointwise; exact hA d k
    · pointwise; exact hB k d
  show r (ix2 i d) - _ = _
  rw [h1, hr, ← EReal.coe_sub]
  rfl

/-- The squares of half a block of reals, summed. -/
theorem squares_coe (r : FVec Ideal S1024x256 .f32) (v : Fin 1024 → Fin 256 → ℝ) (i j : Fin 1)
    (hr : ∀ i d, r (ix2 i d) = ((v i d : ℝ) : EReal)) : squares r (ix2 i j) = ((∑ i, ∑ d, v i d * v i d : ℝ) : EReal) := by
  pointwise [squares]
  simp only [hr, ← EReal.coe_mul, coe_sum]

end Cert.KerIdeal
-- ==== Proof.Given.lean ====
module

public import proofs.«01_k».proof.Proof.Nearest

/-! The real numbers the argument arrays hold, and the two results as functions of them: the encoder's rows, the decoder's
    sum of three taps, and the loss. Neither program is mentioned here. -/

@[expose] public section

noncomputable section

namespace Cert.Given

open Idealize.ShloMosaic Cert.Nearest

/-- The quotient of two real numbers. -/
theorem div_coe (a b : ℝ) (hb : b ≠ 0) : Ideal.div ((a : ℝ) : EReal) ((b : ℝ) : EReal) = ((a / b : ℝ) : EReal) := by
  unfold Ideal.div
  rw [if_neg (by exact_mod_cast hb), div_eq_mul_inv, EReal.coe_mul]
  rfl

/-- The integer zero as a number. -/
theorem sitofp_zero : (FloatOps.sitofp .f32 (0#32) : Ideal .f32) = ((0 : ℝ) : EReal) := by
  show (((0#32 : BitVec 32).toInt : ℝ) : EReal) = _
  simp

/-- A signal with one zero before it and one after it, and zero beyond. -/
def padded (x : Fin 2048 → ℝ) (s : ℕ) : ℝ := if h : 1 ≤ s ∧ s - 1 < 2048 then x ⟨s - 1, h.2⟩ else 0

/-- The three samples around place `t`. -/
def tap (x : Fin 2048 → ℝ) (t : Fin 2048) (j : Fin 3) : ℝ := padded x (t.val + j.val)

/-- An encoded row: three samples against three taps, and the bias. -/
def encRow {n : ℕ} (u : Fin n → Fin 3 → ℝ) (E : Fin 3 → Fin 256 → ℝ) (e : Fin 256 → ℝ) (i : Fin n) (d : Fin 256) : ℝ :=
  ∑ j, u i j * E j d + e d

/-- The squares of what is left after stages `1 … k`. -/
def lossTotal {n : ℕ} (C : Fin 8 → Fin 1024 → Fin 256 → ℝ) (v : Fin n → Fin 256 → ℝ) (k : ℕ) : ℝ :=
  ∑ q ∈ Finset.range k, ∑ i, ∑ d, rest C (v i) (q + 1) d * rest C (v i) (q + 1) d

/-- The signals, the encoder's taps, its bias, and the codebooks, as real numbers. -/
structure Numbers where
  X : Fin 8 → Fin 2048 → ℝ
  E : Fin 3 → Fin 256 → ℝ
  e : Fin 256 → ℝ
  C : Fin 8 → Fin 1024 → Fin 256 → ℝ

namespace Numbers

variable (N : Numbers)

/-- The encoded row at place `t` of signal `b`. -/
def row (b : Fin 8) (t : Fin 2048) (d : Fin 256) : ℝ := encRow (tap (N.X b)) N.E N.e t d

/-- What the stages together have taken from it. -/
def quant (b : Fin 8) (t : Fin 2048) (d : Fin 256) : ℝ := N.row b t d - rest N.C (N.row b t) 8 d

/-- A quantised row against one of the decoder's taps. -/
def part (w : (⟨3, ![1, 256, 3]⟩ : Shape).Idx → EReal) (b : Fin 8) (t : Fin 2048) (j : Fin 3) : EReal :=
  ∑ d, ((N.quant b t d : ℝ) : EReal) * w (ix3 0 d j)

/-- The decoded signal at a place: its own row against the middle tap, its left neighbour's against the first, its right
    neighbour's against the last, and the bias. -/
def signal (w : (⟨3, ![1, 256, 3]⟩ : Shape).Idx → EReal) (v : (⟨1, ![1]⟩ : Shape).Idx → EReal) (b : Fin 8) (t : Fin 2048) :
    EReal :=
  N.part w b t 1 + (if h : 1 ≤ t.val then N.part w b ⟨t.val - 1, by omega⟩ 0 else 0)
    + (if h : t.val < 2047 then N.part w b ⟨1 + t.val, by omega⟩ 2 else 0) + v (ix1 0)

/-- The squares of what is left after each stage, summed over everything. -/
def squares : ℝ := ∑ b, lossTotal N.C (N.row b) 8

/-- The arrays hold these numbers. -/
structure Held (x : (⟨3, ![8, 1, 2048]⟩ : Shape).Idx → EReal) (w : (⟨3, ![256, 1, 3]⟩ : Shape).Idx → EReal)
    (v : (⟨1, ![256]⟩ : Shape).Idx → EReal) (c : (⟨3, ![8, 1024, 256]⟩ : Shape).Idx → EReal) : Prop where
  x : ∀ b t, x (ix3 b 0 t) = ((N.X b t : ℝ) : EReal)
  w : ∀ d j, w (ix3 d 0 j) = ((N.E j d : ℝ) : EReal)
  v : ∀ d, v (ix1 d) = ((N.e d : ℝ) : EReal)
  c : ∀ q k d, c (ix3 q k d) = ((N.C q k d : ℝ) : EReal)

end Numbers

end Cert.Given
-- ==== Proof.KerBlock.lean ====
module

public import proofs.«01_k».proof.Proof.KerMean
public import proofs.«01_k».proof.Proof.Given
public import Idealize.ShloMosaic.Lib.Pipeline.ValueKit

/-! What a block's two outputs hold, when the block's inputs are real numbers: the decoder's products of the quantised
    rows, and the sum over the stages of the squares of what is left. -/

@[expose] public section

set_option maxRecDepth 65536
set_option synthInstance.maxSize 4096

noncomputable section

namespace Cert.KerIdeal

open Idealize.ShloMosaic Cert.KernelIdeal Cert.KernelIdeal.Gen Cert.Nearest Cert.Given

/-- Row number `i` of a block's first half. -/
def lower (i : Fin 1024) : Fin 2048 := ⟨i.val, by omega⟩

/-- Row number `i` of a block's second half. -/
def upper (i : Fin 1024) : Fin 2048 := ⟨1024 + i.val, by omega⟩

section

variable (x0 : Vec Ideal S2048x3 .f32) (x1 : Vec Ideal S3x256 .f32) (x2 : Vec Ideal S1x256 .f32) (x3 : Vec Ideal S256x3 .f32)
  (x4 : Vec Ideal S8x256x1024 .f32) (x5 : Vec Ideal S8x1024x256 .f32)
  (tap : Fin 2048 → Fin 3 → ℝ) (E : Fin 3 → Fin 256 → ℝ) (e : Fin 256 → ℝ) (C : Fin 8 → Fin 1024 → Fin 256 → ℝ)

/-- The block's inputs are these real numbers. -/
structure Reals : Prop where
  taps : ∀ i j, x0 (ix2 i j) = ((tap i j : ℝ) : EReal)
  weights : ∀ j d, x1 (ix2 j d) = ((E j d : ℝ) : EReal)
  bias : ∀ d, x2 (ix2 0 d) = ((e d : ℝ) : EReal)
  booksT : ∀ q d k, x4 (ix3 q d k) = ((-2 * C q k d : ℝ) : EReal)
  books : ∀ q k d, x5 (ix3 q k d) = ((C q k d : ℝ) : EReal)

variable {x0 x1 x2 x4 x5 tap E e C}

theorem Reals.encoded (h : Reals x0 x1 x2 x4 x5 tap E e C) (i : Fin 2048) (d : Fin 256) :
    encodedBlock x0 x1 x2 (ix2 i d) = ((encRow tap E e i d : ℝ) : EReal) := by
  pointwise [encodedBlock, k0_pay3]
  simp only [h.taps, h.weights, h.bias, ← EReal.coe_mul, coe_sum, ← EReal.coe_add, Fin.eta]
  rfl

theorem Reals.slabT (h : Reals x0 x1 x2 x4 x5 tap E e C) (q : Fin 8) (d : Fin 256) (k : Fin 1024) :
    slabT x4 q (ix3 0 d k) = ((-2 * C q k d : ℝ) : EReal) := by
  fin_cases q <;> (simp only [KerIdeal.slabT]; pointwise; exact h.booksT _ d k)

theorem Reals.slab (h : Reals x0 x1 x2 x4 x5 tap E e C) (q : Fin 8) (k : Fin 1024) (d : Fin 256) :
    slab x5 q (ix3 0 k d) = ((C q k d : ℝ) : EReal) := by
  fin_cases q <;> (simp only [KerIdeal.slab]; pointwise; exact h.books _ k d)

/-- What a half's rows have left after `k` stages. -/
theorem Reals.resid (h : Reals x0 x1 x2 x4 x5 tap E e C) {r : Vec Ideal S1024x256 .f32} {v : Fin 1024 → Fin 256 → ℝ}
    (hr : ∀ i d, r (ix2 i d) = ((v i d : ℝ) : EReal)) (k : ℕ) (i : Fin 1024) (d : Fin 256) :
    resid x4 x5 r k (ix2 i d) = ((rest C (v i) k d : ℝ) : EReal) := by
  induction k generalizing d with
  | zero => exact hr i d
  | succ k ih => exact advance_coe _ _ _ _ _ i d (h.slabT _) (h.slab _) ih

theorem Reals.residA (h : Reals x0 x1 x2 x4 x5 tap E e C) (k : ℕ) (i : Fin 1024) (d : Fin 256) :
    residA x0 x1 x2 x4 x5 k (ix2 i d) = ((rest C (encRow tap E e (lower i)) k d : ℝ) : EReal) := by
  refine h.resid (v := fun i => encRow tap E e (lower i)) (fun i d => ?_) k i d
  rw [← h.encoded]
  pointwise [firstHalf]
  rfl

theorem Reals.residB (h : Reals x0 x1 x2 x4 x5 tap E e C) (k : ℕ) (i : Fin 1024) (d : Fin 256) :
    residB x0 x1 x2 x4 x5 k (ix2 i d) = ((rest C (encRow tap E e (upper i)) k d : ℝ) : EReal) := by
  refine h.resid (v := fun i => encRow tap E e (upper i)) (fun i d => ?_) k i d
  rw [← h.encoded]
  pointwise [secondHalf]
  rfl

/-- A sum over the block's rows is the sum over its two halves. -/
theorem sum_halves (f : Fin 2048 → ℝ) : ∑ i, f i = ∑ i, f (lower i) + ∑ i, f (upper i) :=
  Fin.sum_univ_add (a := 1024) (b := 1024) f

/-- The block's running sum of squares. -/
theorem Reals.loss (h : Reals x0 x1 x2 x4 x5 tap E e C) (k : ℕ) :
    lossSum x0 x1 x2 x4 x5 k (ix2 0 0) = ((lossTotal C (encRow tap E e) k : ℝ) : EReal) := by
  induction k with
  | zero =>
    simp only [lossSum, lossTotal]
    pointwise
    simp
  | succ k ih =>
    have hA := squares_coe _ _ 0 0 (h.residA (k + 1))
    have hB := squares_coe _ _ 0 0 (h.residB (k + 1))
    simp only [lossSum, lossTotal, addSquares]
    pointwise
    rw [ih, hA, hB, Finset.sum_range_succ, sum_halves, ← EReal.coe_add, ← EReal.coe_add, add_assoc]
    rfl

/-- A decoded row of the block. -/
theorem Reals.decoded (h : Reals x0 x1 x2 x4 x5 tap E e C) (w : Vec Ideal S256x3 .f32) (i : Fin 2048) (j : Fin 3) :
    decodeBlock (encodedBlock x0 x1 x2) (KerIdeal.residA x0 x1 x2 x4 x5 8) (KerIdeal.residB x0 x1 x2 x4 x5 8) w (ix2 i j)
      = ∑ d, ((encRow tap E e i d - rest C (encRow tap E e i) 8 d : ℝ) : EReal) * w (ix2 d j) := by
  pointwise [decodeBlock]
  refine Finset.sum_congr rfl fun d _ => ?_
  congr 1
  split
  · rw [h.encoded, h.residA, ← EReal.coe_sub]
    rfl
  · have hi : upper ⟨i.val - 1024, by omega⟩ = i := Fin.ext (by simp only [upper]; omega)
    rw [h.encoded, h.residB, ← EReal.coe_sub, hi]

/-- What a block's first output holds. -/
theorem Reals.outRows (h : Reals x0 x1 x2 x4 x5 tap E e C) (i : Fin 2048) (j : Fin 3) :
    out0_6 x0 x1 x2 x3 x4 x5 (ix2 i j)
      = ∑ d, ((encRow tap E e i d - rest C (encRow tap E e i) 8 d : ℝ) : EReal) * x3 (ix2 d j) := by
  rw [out_rows, View.canon_unit_zero (S := S2048x3) (by decide), ← h.decoded]
  pointwise [decodeBlock]

/-- What a block's second output holds. -/
theorem Reals.outLoss (h : Reals x0 x1 x2 x4 x5 tap E e C) :
    out0_7 x0 x1 x2 x3 x4 x5 (ix3 0 0 0) = ((lossTotal C (encRow tap E e) 8 : ℝ) : EReal) := by
  rw [out_loss, View.canon_unit_zero (S := S1x1x1) (by decide), ← h.loss]
  pointwise

end

end Cert.KerIdeal
-- ==== Proof.KerPrep.lean ====
module

public import proofs.«01_k».proof.Proof.KerBlock
public import Idealize.ShloMosaic.Lib.Claim

/-! What the kernel's program prepares for the region out of its arguments, and its entries when the arguments hold real
    numbers: the three samples around each place, the encoder's taps with their axes exchanged, its bias as a row, the
    decoder's taps, and the codebooks times minus two with their axes exchanged. -/

@[expose] public section

set_option maxRecDepth 65536
set_option synthInstance.maxSize 4096

noncomputable section

namespace Cert.KerIdeal

open Idealize.ShloMosaic Idealize.ShloMosaic.TcCoe Cert.KernelIdeal Cert.KernelIdeal.Gen Cert.Nearest Cert.Given

attribute [local instance] Cert.KernelIdeal.Gen.facts

/-- A new last axis of one. -/
def onAxis (x : Vec Ideal S8x2048 .f32) : Vec Ideal S8x2048x1 .f32 :=
  broadcastInDim S8x2048x1 ![0, 1] bcast_S8x2048_S8x2048x1_0_1 x

/-- The integer zero as a real number: what the shifts bring in. -/
def zeroPad : FVec Ideal S_ .f32 := sitofp .f32 (constantI S_ 32 0#32)

/-- Each signal's samples moved one place on. -/
def shiftRight (x : Vec Ideal S8x2048 .f32) : Vec Ideal S8x2048 .f32 :=
  pad S8x2048 ![0, 1] ![0, 0] ![0, 0] (extractStridedSlice S8x2047 ![0, 0] x slices_S8x2048_S8x2047_0_0) zeroPad
    pads_S8x2047_S8x2048_000_100 h_S_

/-- Each signal's samples moved one place back. -/
def shiftLeft (x : Vec Ideal S8x2048 .f32) : Vec Ideal S8x2048 .f32 :=
  pad S8x2048 ![0, 0] ![0, 1] ![0, 0] (extractStridedSlice S8x2047 ![0, 1] x slices_S8x2048_S8x2047_0_1) zeroPad
    pads_S8x2047_S8x2048_000_010 h_S_

/-- Three columns side by side, the signals one after another. -/
def sideBySide (x y z : Vec Ideal S8x2048x1 .f32) : Vec Ideal S16384x3 .f32 :=
  shapeCast S16384x3 (concatenate S8x2048x3 2 [⟨S8x2048x1, x⟩, ⟨S8x2048x1, y⟩, ⟨S8x2048x1, z⟩]
    concatenates_S8x2048x1_S8x2048x1_S8x2048x1_S8x2048x3_d2) shapeCasts_S8x2048x3_S16384x3

/-- The signals without their axis of one. -/
def signals (x : Vec Ideal S8x1x2048 .f32) : Vec Ideal S8x2048 .f32 := shapeCast S8x2048 x shapeCasts_S8x1x2048_S8x2048

/-- The three samples around each place. -/
def prepTaps (x : Vec Ideal S8x1x2048 .f32) : Vec Ideal S16384x3 .f32 :=
  sideBySide (onAxis (shiftRight (signals x))) (onAxis (signals x)) (onAxis (shiftLeft (signals x)))

/-- The encoder's taps, tap first. -/
def prepWeights (w : Vec Ideal S256x1x3 .f32) : Vec Ideal S3x256 .f32 :=
  transpose S3x256 [1, 0] (shapeCast S256x3 w shapeCasts_S256x1x3_S256x3) transposes_S256x3_S3x256_1_0

/-- The codebooks times minus two, channel first. -/
def prepBooks (c : Vec Ideal S8x1024x256 .f32) : FVec Ideal S8x256x1024 .f32 :=
  mulf (broadcastInDim S8x256x1024 ![] bcast_S_S8x256x1024 (constant S_ .f32 0xC0000000#32))
    (transpose S8x256x1024 [0, 2, 1] c transposes_S8x1024x256_S8x256x1024_0_2_1)

section Reads

variable (m : (b : Loc nD τ sig) → Buf (Elt Ideal) b) (c : Dev nD)

theorem prep_weights : V m c main_call0_v11 = prepWeights (m ((c : Thread nD τ).loc main_arg1)) := by
  show StableHlo.after hostOps0 _ _ = _
  unfold hostOps0
  after_results
  rfl

theorem prep_bias : V m c main_call0_v12
    = broadcastInDim S1x256 ![1] bcast_S256_S1x256_1 (m ((c : Thread nD τ).loc main_arg2)) := by
  show StableHlo.after hostOps0 _ _ = _
  unfold hostOps0
  after_results
  rfl

theorem prep_dec : V m c main_call0_v13
    = shapeCast S256x3 (m ((c : Thread nD τ).loc main_arg3)) shapeCasts_S1x256x3_S256x3 := by
  show StableHlo.after hostOps0 _ _ = _
  unfold hostOps0
  after_results
  rfl

theorem prep_booksT : V m c main_call0_v16 = prepBooks (m ((c : Thread nD τ).loc main_arg5)) := by
  show StableHlo.after hostOps0 _ _ = _
  unfold hostOps0
  after_results
  simp only [StableHlo.TRef.ofBuf_toBuf]
  rfl

/-- The lines from the one that puts the three columns together, from any contents. -/
theorem late (W : Valuation τ sig (Elt Ideal)) :
    StableHlo.after (List.drop 12 hostOps0) W (Proc.devRef .tc main_call0_v9)
      = sideBySide (W (Proc.devRef .tc main_call0_v5)) (W (Proc.devRef .tc main_call0_v6))
          (W (Proc.devRef .tc main_call0_v7)) := by
  simp only [hostOps0, List.drop]
  after_results
  rfl

/-- The lines before it: the three columns. -/
theorem early (W : Valuation τ sig (Elt Ideal)) :
    StableHlo.after (List.take 12 hostOps0) W (Proc.devRef .tc main_call0_v5)
        = onAxis (shiftRight (signals (W (Proc.devRef .tc main_arg0))))
      ∧ StableHlo.after (List.take 12 hostOps0) W (Proc.devRef .tc main_call0_v6)
        = onAxis (signals (W (Proc.devRef .tc main_arg0)))
      ∧ StableHlo.after (List.take 12 hostOps0) W (Proc.devRef .tc main_call0_v7)
        = onAxis (shiftLeft (signals (W (Proc.devRef .tc main_arg0)))) := by
  simp only [hostOps0, List.take]
  refine ⟨?_, ?_, ?_⟩ <;> after_results <;> (try simp only [StableHlo.TRef.ofBuf_toBuf]) <;> rfl

theorem prep_taps : V m c main_call0_v9 = prepTaps (m ((c : Thread nD τ).loc main_arg0)) := by
  have h := early fun b => m (c, b)
  refine (late (StableHlo.after (List.take 12 hostOps0) fun b => m (c, b))).trans ?_
  rw [h.1, h.2.1, h.2.2]
  rfl

end Reads

/-- The bit pattern of minus two. -/
theorem ofBits_neg_two : Ideal.ofBits .f32 0xC0000000#32 = ((-2 : ℝ) : EReal) := by
  simp [Ideal.ofBits, Ideal.ieee]
  norm_num
  rw [← EReal.coe_mul]
  norm_num

section Entries

variable {N : Numbers} {x : Vec Ideal S8x1x2048 .f32} {w : Vec Ideal S256x1x3 .f32} {v : Vec Ideal S256 .f32}
  {c : Vec Ideal S8x1024x256 .f32} (h : N.Held x w v c)

include h

theorem taps_entry (n : Fin 16384) (j : Fin 3) :
    prepTaps x (ix2 n j) = ((tap (N.X ⟨n.val / 2048, by omega⟩) ⟨n.val % 2048, by omega⟩ j : ℝ) : EReal) := by
  pointwise [prepTaps, sideBySide, onAxis, shiftRight, shiftLeft, zeroPad, signals]
  simp only [h.x, sitofp_zero, tap, padded]
  have hn : n.val / 2048 < 8 := by omega
  fin_cases j
  · by_cases h1 : 1 ≤ n.val % 2048
    · have h2 : n.val % 2048 - 1 < 2047 := by omega
      have h3 : n.val % 2048 - 1 < 2048 := by omega
      simp [h1, h2, h3, hn]
    · simp [h1]
  · have h2 : n.val % 2048 < 2048 := by omega
    simp [h2]
  · by_cases h1 : n.val % 2048 < 2047
    · have h2 : n.val % 2048 + 1 < 2048 := by omega
      have h3 : 1 ≤ n.val % 2048 + 2 := by omega
      simp [h1, h2, h3, hn, Nat.add_comm 1]
    · have h2 : ¬ n.val % 2048 + 1 < 2048 := by omega
      simp [h1, h2]

theorem weights_entry (j : Fin 3) (d : Fin 256) : prepWeights w (ix2 j d) = ((N.E j d : ℝ) : EReal) := by
  pointwise [prepWeights]
  exact h.w d j

theorem bias_entry (d : Fin 256) :
    broadcastInDim S1x256 ![1] bcast_S256_S1x256_1 v (ix2 0 d) = ((N.e d : ℝ) : EReal) := by
  pointwise
  exact h.v d

theorem books_entry (q : Fin 8) (d : Fin 256) (k : Fin 1024) :
    prepBooks c (ix3 q d k) = ((-2 * N.C q k d : ℝ) : EReal) := by
  pointwise [prepBooks]
  rw [h.c, EReal.coe_mul]
  exact congrArg (· * _) ofBits_neg_two

end Entries

end Cert.KerIdeal
-- ==== Proof.KerArr.lean ====
module

public import proofs.«01_k».proof.Proof.KerPrep

/-! What the region's two arrays hold when it has run: the quantised rows against the decoder's taps, and one sum of
    squares per signal. -/

@[expose] public section

set_option maxRecDepth 65536
set_option synthInstance.maxSize 4096

noncomputable section

namespace Cert.KerIdeal

open Idealize.ShloMosaic Idealize.ShloMosaic.TcCoe Cert.KernelIdeal Cert.KernelIdeal.Gen Cert.Nearest Cert.Given

attribute [local instance] Cert.KernelIdeal.Gen.facts

variable (m : (b : Loc nD τ sig) → Buf (Elt Ideal) b) (c : Dev nD)

/-- The six arrays a core's region reads hold these numbers. -/
def HeldBy (N : Numbers) : Prop :=
  N.Held (m ((c : Thread nD τ).loc main_arg0)) (m ((c : Thread nD τ).loc main_arg1))
    (m ((c : Thread nD τ).loc main_arg2)) (m ((c : Thread nD τ).loc main_arg5))

variable {m c} {N : Numbers}

/-- The signal a grid point works on. -/
def signalOf (t : Fin cfg0.N) : Fin 8 := ⟨t.val, t.isLt⟩

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0]
    ∧ win0_6.index t = ![t.val, 0] ∧ win0_7.index t = ![t.val, 0, 0] :=
  (by decide +kernel : ∀ t : Fin grid0.N, _)

/-- The array row of a block's row. -/
def rowAt (b : Fin 8) (i : Fin 2048) : Fin 16384 := ⟨b.val * 2048 + i.val, by omega⟩

theorem emb0 (t : Fin cfg0.N) (i : Fin 2048) (j : Fin 3) :
    (win0_0.blk t).view.emb (ix2 i j) = ix2 (rowAt (signalOf t) i) j := by
  blk_ext [idx t, signalOf, rowAt]

theorem emb1 (t : Fin cfg0.N) (j : Fin 3) (d : Fin 256) : (win0_1.blk t).view.emb (ix2 j d) = ix2 j d := by
  blk_ext [idx t]

theorem emb2 (t : Fin cfg0.N) (d : Fin 256) : (win0_2.blk t).view.emb (ix2 0 d) = ix2 0 d := by
  blk_ext [idx t]

theorem emb3 (t : Fin cfg0.N) (d : Fin 256) (j : Fin 3) : (win0_3.blk t).view.emb (ix2 d j) = ix2 d j := by
  blk_ext [idx t]

theorem emb4 (t : Fin cfg0.N) (q : Fin 8) (d : Fin 256) (k : Fin 1024) :
    (win0_4.blk t).view.emb (ix3 q d k) = ix3 q d k := by
  blk_ext [idx t]

theorem emb5 (t : Fin cfg0.N) (q : Fin 8) (k : Fin 1024) (d : Fin 256) :
    (win0_5.blk t).view.emb (ix3 q k d) = ix3 q k d := by
  blk_ext [idx t]

theorem emb6 (t : Fin cfg0.N) (i : Fin 2048) (j : Fin 3) :
    (win0_6.blk t).view.emb (ix2 i j) = ix2 (rowAt (signalOf t) i) j := by
  blk_ext [idx t, signalOf, rowAt]

theorem emb7 (t : Fin cfg0.N) : (win0_7.blk t).view.emb (ix3 0 0 0) = ix3 (signalOf t) 0 0 := by
  blk_ext [idx t, signalOf]

theorem rowAt_div (b : Fin 8) (i : Fin 2048) : (rowAt b i).val / 2048 = b.val := by simp only [rowAt]; omega
theorem rowAt_mod (b : Fin 8) (i : Fin 2048) : (rowAt b i).val % 2048 = i.val := by simp only [rowAt]; omega

theorem blockReals (h : HeldBy m c N) (t : Fin cfg0.N) :
    Reals (iblk m c 0 t) (iblk m c 1 t) (iblk m c 2 t) (iblk m c 4 t) (iblk m c 5 t) (tap (N.X (signalOf t))) N.E N.e N.C where
  taps i j := by
    blk_simp [iblk]
    rw [emb0, prep_taps, taps_entry h]
    simp only [rowAt_div, rowAt_mod, Fin.eta]
  weights j d := by
    blk_simp [iblk]
    rw [emb1, prep_weights, weights_entry h]
  bias d := by
    blk_simp [iblk]
    rw [emb2, prep_bias, bias_entry h]
  booksT q d k := by
    blk_simp [iblk]
    rw [emb4, prep_booksT, books_entry h]
  books q k d := by
    blk_simp [iblk]
    rw [emb5, V_main_arg5]
    exact h.c q k d

theorem dec_entry (w : Vec Ideal S1x256x3 .f32) (d : Fin 256) (j : Fin 3) :
    shapeCast S256x3 w shapeCasts_S1x256x3_S256x3 (ix2 d j) = w (ix3 0 d j) := by
  pointwise

/-- The decoder's taps as a block finds them. -/
theorem blockDec (t : Fin cfg0.N) (d : Fin 256) (j : Fin 3) :
    iblk m c 3 t (ix2 d j) = m ((c : Thread nD τ).loc main_arg3) (ix3 0 d j) := by
  blk_simp [iblk]
  rw [emb3, prep_dec]
  exact dec_entry _ d j

variable (m c N) in
/-- The rows the region leaves. -/
def rowsLeft : Vec Ideal S16384x3 .f32 := fun n =>
  N.part (m ((c : Thread nD τ).loc main_arg3)) ⟨(n 0).val / 2048, by have := (n 0).isLt; simp at this; omega⟩
    ⟨(n 0).val % 2048, by omega⟩ (n 1)

theorem arr_rows (h : HeldBy m c N) : (Gen.dats m 0 c).arrAt 6 (cfgs 0).N = rowsLeft m c N := by
  refine (Gen.dats m 0 c).arrAt_eq_of_covers 6 _ (by decide +kernel) fun t hf y => ?_
  idx_vars y
  blk_simp
  rw [after0_6, emb6, (blockReals h t).outRows]
  simp only [blockDec, rowsLeft, Numbers.part, ix2, Matrix.cons_val]
  simp only [rowAt_div, rowAt_mod, Fin.eta]
  rfl

variable (N) in
/-- The sums the region leaves. -/
def sumsLeft : Vec Ideal S8x1x1 .f32 := fun n => ((lossTotal N.C (N.row (n 0)) 8 : ℝ) : EReal)

theorem arr_sums (h : HeldBy m c N) : (Gen.dats m 0 c).arrAt 7 (cfgs 0).N = sumsLeft N := by
  refine (Gen.dats m 0 c).arrAt_eq_of_covers 7 _ (by decide +kernel) fun t hf y => ?_
  idx_vars y
  blk_simp
  obtain rfl : y0 = 0 := Subsingleton.elim _ _
  obtain rfl : y1 = 0 := Subsingleton.elim _ _
  obtain rfl : y2 = 0 := Subsingleton.elim _ _
  rw [after0_7, emb7, (blockReals h t).outLoss]
  rfl

end Cert.KerIdeal
-- ==== Proof.KerRun.lean ====
module

public import proofs.«01_k».proof.Proof.KerArr

/-! What the kernel's program leaves: the three taps' parts of the region's rows added with their shifts, and the region's
    sums added up and divided. -/

@[expose] public section

set_option maxRecDepth 65536
set_option synthInstance.maxSize 4096

noncomputable section

namespace Cert.KerIdeal

open Idealize.ShloMosaic Idealize.ShloMosaic.TcCoe Cert.KernelIdeal Cert.KernelIdeal.Gen Cert.Nearest Cert.Given

attribute [local instance] Cert.KernelIdeal.Gen.facts

/-- The rows' products with the middle tap. -/
def middle (y : Vec Ideal S8x2048x3 .f32) : Vec Ideal S8x2048 .f32 :=
  shapeCast S8x2048 (extractStridedSlice S8x2048x1 ![0, 0, 1] y slices_S8x2048x3_S8x2048x1_0_0_1) shapeCasts_S8x2048x1_S8x2048

/-- The left neighbours' products with the first tap. -/
def leftPart (y : Vec Ideal S8x2048x3 .f32) : Vec Ideal S8x2048 .f32 :=
  pad S8x2048 ![0, 1] ![0, 0] ![0, 0]
    (shapeCast S8x2047 (extractStridedSlice S8x2047x1 ![0, 0, 0] y slices_S8x2048x3_S8x2047x1_0_0_0)
      shapeCasts_S8x2047x1_S8x2047) zeroPad pads_S8x2047_S8x2048_000_100 h_S_

/-- The right neighbours' products with the last tap. -/
def rightPart (y : Vec Ideal S8x2048x3 .f32) : Vec Ideal S8x2048 .f32 :=
  pad S8x2048 ![0, 0] ![0, 1] ![0, 0]
    (shapeCast S8x2047 (extractStridedSlice S8x2047x1 ![0, 1, 2] y slices_S8x2048x3_S8x2047x1_0_1_2)
      shapeCasts_S8x2047x1_S8x2047) zeroPad pads_S8x2047_S8x2048_000_010 h_S_

/-- The decoded signals out of the region's rows and the decoder's bias. -/
def signalOut (n : Vec Ideal S16384x3 .f32) (v : Vec Ideal S1 .f32) : FVec Ideal S8x1x2048 .f32 :=
  let y := shapeCast S8x2048x3 n shapeCasts_S16384x3_S8x2048x3
  addf (broadcastInDim S8x1x2048 ![0, 2] bcast_S8x2048_S8x1x2048_0_2 (addf (addf (middle y) (leftPart y)) (rightPart y)))
    (broadcastInDim S8x1x2048 ![0, 1, 2] bcast_S1x1x1_S8x1x2048_0_1_2 (broadcastInDim S1x1x1 ![1] bcast_S1_S1x1x1_1 v))

/-- The loss out of the region's sums. -/
def lossOut (l : Vec Ideal S8x1x1 .f32) : FVec Ideal S_ .f32 :=
  Host.divf (Host.reduceAdd l (constant S_ .f32 0x00000000#32) reducesTo_S8x1x1_S_d0_1_2 h_S_)
    (constant S_ .f32 0x4C000000#32)

theorem tail_reads (W : Valuation τ sig (Elt Ideal)) :
    StableHlo.after hostOps1 W (Proc.devRef .tc main_v0_0)
        = signalOut (W (Proc.devRef .tc main_call0_v17_0)) (W (Proc.devRef .tc main_arg4))
      ∧ StableHlo.after hostOps1 W (Proc.devRef .tc main_v0_1) = lossOut (W (Proc.devRef .tc main_call0_v17_1)) := by
  unfold hostOps1
  refine ⟨?_, ?_⟩ <;> after_results <;> (try simp only [StableHlo.TRef.ofBuf_toBuf]) <;> rfl

variable (m : (b : Loc nD τ sig) → Buf (Elt Ideal) b) (ρ : Dev nD → PrngReg)

/-- The contents the lines after the region start from. -/
def afterRegion (c : Dev nD) : Valuation τ sig (Elt Ideal) :=
  Pipeline.withArrays (cfgs 0).spec c (V0 m c) fun w => (Gen.dats m 0 c).arrAt w (cfgs 0).N

theorem arrays_apart : Function.Injective (Pipeline.arrRef spec0) := by decide

theorem afterRegion_rows (c : Dev nD) :
    afterRegion m c (Proc.devRef .tc main_call0_v17_0) = (Gen.dats m 0 c).arrAt 6 (cfgs 0).N :=
  Pipeline.withArrays_arr spec0 arrays_apart c (V0 m c) _ 6

theorem afterRegion_sums (c : Dev nD) :
    afterRegion m c (Proc.devRef .tc main_call0_v17_1) = (Gen.dats m 0 c).arrAt 7 (cfgs 0).N :=
  Pipeline.withArrays_arr spec0 arrays_apart c (V0 m c) _ 7

theorem afterRegion_bias (c : Dev nD) :
    afterRegion m c (Proc.devRef .tc main_arg4) = m ((c : Thread nD τ).loc main_arg4) :=
  (Pipeline.withArrays_of_ne spec0 c (V0 m c) _ main_arg4 (by decide)).trans (V_main_arg4 m c)

theorem run : θ_run defs (onTc (τ := τ) (main (F := Ideal))) ⟨m, fun _ => 0, ρ⟩ fun r => ∀ c : Dev nD,
    r.2.mem ((c : Thread nD τ).loc main_v0_0)
        = signalOut ((Gen.dats m 0 c).arrAt 6 (cfgs 0).N) (m ((c : Thread nD τ).loc main_arg4))
      ∧ r.2.mem ((c : Thread nD τ).loc main_v0_1) = lossOut ((Gen.dats m 0 c).arrAt 7 (cfgs 0).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  run_from (Gen.run_main m ρ)
  · refine (tail_reads (afterRegion m c)).1.trans ?_
    rw [afterRegion_rows, afterRegion_bias]
  · refine (tail_reads (afterRegion m c)).2.trans ?_
    rw [afterRegion_sums]
  · exact W_main_arg0 m _ c
  · exact W_main_arg1 m _ c
  · exact W_main_arg2 m _ c
  · exact W_main_arg3 m _ c
  · exact W_main_arg4 m _ c

/-- The bit pattern of two to the twenty-fifth. -/
theorem ofBits_count : Ideal.ofBits .f32 0x4C000000#32 = ((33554432 : ℝ) : EReal) := by
  simp [Ideal.ofBits, Ideal.ieee]
  norm_num
  rw [← EReal.coe_pow, ← EReal.coe_mul]
  norm_num

variable {m} {c : Dev nD} {N : Numbers}

theorem signalOut_entry (v : Vec Ideal S1 .f32) (b : Fin 8) (t : Fin 2048) :
    signalOut (rowsLeft m c N) v (ix3 b 0 t) = N.signal (m ((c : Thread nD τ).loc main_arg3)) v b t := by
  pointwise [signalOut, middle, leftPart, rightPart, zeroPad, rowsLeft]
  have h0 : (b.val * 2048 + t.val) / 2048 = b.val := by omega
  have h1 : (b.val * 2048 + t.val) % 2048 = t.val := by omega
  have h2 : (b.val * 2048 + (t.val - 1)) / 2048 = b.val := by omega
  have h3 : (b.val * 2048 + (t.val - 1)) % 2048 = t.val - 1 := by omega
  simp only [h0, h1, h2, h3, Fin.eta, sitofp_zero, EReal.coe_zero, Numbers.signal]
  congr 1
  congr 1
  · congr 1
    by_cases h : 1 ≤ t.val
    · rw [dif_pos ⟨h, by omega⟩, dif_pos h]
    · rw [dif_neg (fun h' => h h'.1), dif_neg h]
  · by_cases h : t.val < 2047
    · have h4 : (b.val * 2048 + (1 + t.val)) / 2048 = b.val := by omega
      have h5 : (b.val * 2048 + (1 + t.val)) % 2048 = 1 + t.val := by omega
      simp only [dif_pos h, h4, h5]
    · rw [dif_neg h, dif_neg h]

theorem lossOut_entry : lossOut (sumsLeft N) = fun _ => ((N.squares / 33554432 : ℝ) : EReal) := by
  funext i
  pointwise [lossOut, sumsLeft]
  simp only [Finset.univ_unique, Finset.sum_singleton, coe_sum]
  exact (congrArg _ ofBits_count).trans (div_coe _ _ (by norm_num))

end Cert.KerIdeal
-- ==== Proof.RefOps.lean ====
module

public import proofs.«01_k».proof.Defs
public import proofs.«01_k».proof.Proof.Gen.ReferenceIdeal
public import Idealize.ShloMosaic.Lib.StableHlo.RunHlo

/-! The reference program as lists of host operations: one list per printed function, over the call's arguments and
    buffers, and the proof that the printed function runs exactly that list. -/

@[expose] public section

set_option maxRecDepth 16384

noncomputable section

namespace Cert.RefIdeal

open Idealize.ShloMosaic Idealize.ShloMosaic.StableHlo Idealize.SL.Sem Cert.ReferenceIdeal Cert.ReferenceIdeal.Facts₀ Cert.ReferenceIdeal.Facts

attribute [local instance] Cert.ReferenceIdeal.Gen.facts

variable {F : FTy → Type} [FloatOps F]

/-- The host operations of one call of the padding of the input, in order. -/
def padOps (arg0 : StableHlo.TRef sig ⟨S8x1x2048, .f32⟩) (arg1 : StableHlo.TRef sig ⟨S_, .i32⟩) (φ : fn_pad.Bufs) : List (HloOp τ sig (Elt F)) :=
  [StableHlo.TRef.unary arg1 φ.v0 (sitofp .f32),
    StableHlo.TRef.binary arg0 φ.v0 φ.v1 (fun x v => pad S8x1x2050 ![0, 0, 1] ![0, 0, 1] ![0, 0, 0] x v pads_S8x1x2048_S8x1x2050_000_000_110 h_S_)]

theorem pad_seq (arg0 : StableHlo.TRef sig ⟨S8x1x2048, .f32⟩) (arg1 : StableHlo.TRef sig ⟨S_, .i32⟩) (φ : fn_pad.Bufs) :
    IsSeq (nD := nD) (fn_pad.body (F := F) arg0 arg1 φ) (padOps arg0 arg1 φ) := by
  hlo_seq

/-- The host operations of one call of the encoder convolution, in order. -/
def encodeOps (arg0 : StableHlo.TRef sig ⟨S8x1x2048, .f32⟩) (arg1 : StableHlo.TRef sig ⟨S256x1x3, .f32⟩) (arg2 : StableHlo.TRef sig ⟨S256, .f32⟩) (φ : fn_encode.Bufs) : List (HloOp τ sig (Elt F)) :=
  [StableHlo.TRef.nullary φ.c (constantI S_ 32 0#32)] ++
  padOps arg0 φ.c φ.call0 ++
  [StableHlo.TRef.unary φ.call0.v1 φ.v1 (extractStridedSlice S8x1x2048 ![0, 0, 0] · slices_S8x1x2050_S8x1x2048_0_0_0),
    StableHlo.TRef.unary arg1 φ.v2 (extractStridedSlice S256x1x1 ![0, 0, 0] · slices_S256x1x3_S256x1x1_0_0_0),
    StableHlo.TRef.reshape φ.v2 φ.v3 (rfl : (.f32 : EltTy) = .f32) shapeCasts_S256x1x1_S256x1,
    StableHlo.TRef.binary φ.v3 φ.v1 φ.v4 (fun l r => Host.dotGeneral dot_S256x1_S8x1x2048_S256x8x2048_1_1_0_02_n_n none l r),
    StableHlo.TRef.unary φ.v4 φ.v5 (transpose S8x256x2048 [1, 0, 2] · transposes_S256x8x2048_S8x256x2048_1_0_2),
    StableHlo.TRef.nullary φ.cst (constant S_ .f32 0x00000000#32),
    StableHlo.TRef.unary φ.cst φ.v6 (broadcastInDim S8x256x2048 ![] bcast_S_S8x256x2048),
    StableHlo.TRef.binary φ.v6 φ.v5 φ.v7 addf,
    StableHlo.TRef.unary φ.call0.v1 φ.v8 (extractStridedSlice S8x1x2048 ![0, 0, 1] · slices_S8x1x2050_S8x1x2048_0_0_1),
    StableHlo.TRef.unary arg1 φ.v9 (extractStridedSlice S256x1x1 ![0, 0, 1] · slices_S256x1x3_S256x1x1_0_0_1),
    StableHlo.TRef.reshape φ.v9 φ.v10 (rfl : (.f32 : EltTy) = .f32) shapeCasts_S256x1x1_S256x1,
    StableHlo.TRef.binary φ.v10 φ.v8 φ.v11 (fun l r => Host.dotGeneral dot_S256x1_S8x1x2048_S256x8x2048_1_1_0_02_n_n none l r),
    StableHlo.TRef.unary φ.v11 φ.v12 (transpose S8x256x2048 [1, 0, 2] · transposes_S256x8x2048_S8x256x2048_1_0_2),
    StableHlo.TRef.binary φ.v7 φ.v12 φ.v13 addf,
    StableHlo.TRef.unary φ.call0.v1 φ.v14 (extractStridedSlice S8x1x2048 ![0, 0, 2] · slices_S8x1x2050_S8x1x2048_0_0_2),
    StableHlo.TRef.unary arg1 φ.v15 (extractStridedSlice S256x1x1 ![0, 0, 2] · slices_S256x1x3_S256x1x1_0_0_2),
    StableHlo.TRef.reshape φ.v15 φ.v16 (rfl : (.f32 : EltTy) = .f32) shapeCasts_S256x1x1_S256x1,
    StableHlo.TRef.binary φ.v16 φ.v14 φ.v17 (fun l r => Host.dotGeneral dot_S256x1_S8x1x2048_S256x8x2048_1_1_0_02_n_n none l r),
    StableHlo.TRef.unary φ.v17 φ.v18 (transpose S8x256x2048 [1, 0, 2] · transposes_S256x8x2048_S8x256x2048_1_0_2),
    StableHlo.TRef.binary φ.v13 φ.v18 φ.v19 addf,
    StableHlo.TRef.unary arg2 φ.v20 (broadcastInDim S1x256x1 ![1] bcast_S256_S1x256x1_1),
    StableHlo.TRef.unary φ.v20 φ.v21 (broadcastInDim S8x256x2048 ![0, 1, 2] bcast_S1x256x1_S8x256x2048_0_1_2),
    StableHlo.TRef.binary φ.v19 φ.v21 φ.v22 addf]

theorem encode_seq (arg0 : StableHlo.TRef sig ⟨S8x1x2048, .f32⟩) (arg1 : StableHlo.TRef sig ⟨S256x1x3, .f32⟩) (arg2 : StableHlo.TRef sig ⟨S256, .f32⟩) (φ : fn_encode.Bufs) :
    IsSeq (nD := nD) (fn_encode.body (F := F) arg0 arg1 arg2 φ) (encodeOps arg0 arg1 arg2 φ) := by
  hlo_seq

/-- The host operations of one call of the row argmin, in order. -/
def argminOps (arg0 : StableHlo.TRef sig ⟨S8x2048x1024, .f32⟩) (φ : fn_argmin.Bufs) : List (HloOp τ sig (Elt F)) :=
  [StableHlo.TRef.nullary φ.v0 (iotaInDim S8x2048x1024 32 2),
    StableHlo.TRef.nullary φ.cst (constant S_ .f32 0x7F800000#32),
    StableHlo.TRef.nullary φ.c (constantI S_ 32 0#32),
    StableHlo.TRef.quaternary arg0 φ.v0 φ.cst φ.c φ.v1_0 (fun x y u v j => (Host.argReduce reducer_argmin_f32_i32 x y u v reducesTo_S8x2048x1024_S8x2048_d2 h_S_ j).1),
    StableHlo.TRef.quaternary arg0 φ.v0 φ.cst φ.c φ.v1_1 (fun x y u v j => (Host.argReduce reducer_argmin_f32_i32 x y u v reducesTo_S8x2048x1024_S8x2048_d2 h_S_ j).2)]

theorem argmin_seq (arg0 : StableHlo.TRef sig ⟨S8x2048x1024, .f32⟩) (φ : fn_argmin.Bufs) :
    IsSeq (nD := nD) (fn_argmin.body (F := F) arg0 φ) (argminOps arg0 φ) := by
  hlo_seq

/-- The host operation of one call of the index wrap-around select. -/
def whereOps (arg0 : StableHlo.TRef sig ⟨S8x2048, .i1⟩) (arg1 : StableHlo.TRef sig ⟨S8x2048, .i32⟩) (arg2 : StableHlo.TRef sig ⟨S8x2048, .i32⟩) (φ : fn_where.Bufs) : List (HloOp τ sig (Elt F)) :=
  [StableHlo.TRef.ternary arg0 arg1 arg2 φ.v0 select]

theorem where_seq (arg0 : StableHlo.TRef sig ⟨S8x2048, .i1⟩) (arg1 : StableHlo.TRef sig ⟨S8x2048, .i32⟩) (arg2 : StableHlo.TRef sig ⟨S8x2048, .i32⟩) (φ : fn_where.Bufs) :
    IsSeq (nD := nD) (fn_where.body (F := F) arg0 arg1 arg2 φ) (whereOps arg0 arg1 arg2 φ) := by
  hlo_seq

/-- The host operations of one call of the codebook lookup, in order. -/
def takeOps (arg0 : StableHlo.TRef sig ⟨S1024x256, .f32⟩) (arg1 : StableHlo.TRef sig ⟨S8x2048, .i32⟩) (φ : fn_take.Bufs) : List (HloOp τ sig (Elt F)) :=
  [StableHlo.TRef.nullary φ.c (constantI S_ 32 0#32),
    StableHlo.TRef.unary φ.c φ.v0 (broadcastInDim S8x2048 ![] bcast_S_S8x2048),
    StableHlo.TRef.binary arg1 φ.v0 φ.v1 (cmpi .slt),
    StableHlo.TRef.nullary φ.c_0 (constantI S_ 32 1024#32),
    StableHlo.TRef.unary φ.c_0 φ.v2 (broadcastInDim S8x2048 ![] bcast_S_S8x2048),
    StableHlo.TRef.binary arg1 φ.v2 φ.v3 addi] ++
  whereOps φ.v1 φ.v3 arg1 φ.call0 ++
  [StableHlo.TRef.unary φ.call0.v0 φ.v5 (broadcastInDim S8x2048x1 ![0, 1] bcast_S8x2048_S8x2048x1_0_1),
    StableHlo.TRef.nullary φ.c_1 (constantI S1 32 1023#32),
    StableHlo.TRef.nullary φ.c_2 (constantI S_ 32 0#32),
    StableHlo.TRef.unary φ.c_2 φ.v6 (broadcastInDim S8x2048x1 ![] bcast_S_S8x2048x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S8x2048x1 ![0, 1, 2] bcast_S1x1x1_S8x2048x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8x2048x1_S8x2048_d2 h_S_),
    StableHlo.TRef.binary arg0 φ.v5 φ.v13 (fun x i => Host.gather gather_S1024x256_S8x2048x1_S8x2048x256_2_0_n_n_0_2_1256 x i),
    StableHlo.TRef.unary φ.v12 φ.v14 (broadcastInDim S8x2048x256 ![0, 1] bcast_S8x2048_S8x2048x256_0_1),
    StableHlo.TRef.nullary φ.cst (constant S_ .f32 0x7FC00000#32),
    StableHlo.TRef.unary φ.cst φ.v15 (broadcastInDim S8x2048x256 ![] bcast_S_S8x2048x256),
    StableHlo.TRef.ternary φ.v14 φ.v13 φ.v15 φ.v16 select]

theorem take_seq (arg0 : StableHlo.TRef sig ⟨S1024x256, .f32⟩) (arg1 : StableHlo.TRef sig ⟨S8x2048, .i32⟩) (φ : fn_take.Bufs) :
    IsSeq (nD := nD) (fn_take.body (F := F) arg0 arg1 φ) (takeOps arg0 arg1 φ) := by
  hlo_seq

/-- The host operations of one quantiser stage, in order. -/
def stageOps (arg0 : StableHlo.TRef sig ⟨S8x2048x256, .f32⟩) (arg1 : StableHlo.TRef sig ⟨S8x2048x256, .f32⟩) (arg2 : StableHlo.TRef sig ⟨S_, .f32⟩) (arg3 : StableHlo.TRef sig ⟨S1024x256, .f32⟩) (φ : fn_stage.Bufs) : List (HloOp τ sig (Elt F)) :=
  [StableHlo.TRef.binary arg0 arg0 φ.v0 mulf,
    StableHlo.TRef.nullary φ.cst (constant S_ .f32 0x00000000#32),
    StableHlo.TRef.binary φ.v0 φ.cst φ.v1 (fun x v => Host.reduceAdd x v reducesTo_S8x2048x256_S8x2048_d2 h_S_),
    StableHlo.TRef.unary φ.v1 φ.v2 (broadcastInDim S8x2048x1 ![0, 1] bcast_S8x2048_S8x2048x1_0_1),
    StableHlo.TRef.nullary φ.cst_0 (constant S_ .f32 0x40000000#32),
    StableHlo.TRef.unary φ.cst_0 φ.v3 (broadcastInDim S8x2048x256 ![] bcast_S_S8x2048x256),
    StableHlo.TRef.binary φ.v3 arg0 φ.v4 mulf,
    StableHlo.TRef.unary arg3 φ.v5 (transpose S256x1024 [1, 0] · transposes_S1024x256_S256x1024_1_0),
    StableHlo.TRef.binary φ.v4 φ.v5 φ.v6 (fun l r => Host.dotGeneral dot_S8x2048x256_S256x1024_S8x2048x1024_2_0_01_1_n_n none l r),
    StableHlo.TRef.unary φ.v2 φ.v7 (broadcastInDim S8x2048x1024 ![0, 1, 2] bcast_S8x2048x1_S8x2048x1024_0_1_2),
    StableHlo.TRef.binary φ.v7 φ.v6 φ.v8 subf,
    StableHlo.TRef.binary arg3 arg3 φ.v9 mulf,
    StableHlo.TRef.nullary φ.cst_1 (constant S_ .f32 0x00000000#32),
    StableHlo.TRef.binary φ.v9 φ.cst_1 φ.v10 (fun x v => Host.reduceAdd x v reducesTo_S1024x256_S1024_d1 h_S_),
    StableHlo.TRef.unary φ.v10 φ.v11 (broadcastInDim S1x1x1024 ![2] bcast_S1024_S1x1x1024_2),
    StableHlo.TRef.unary φ.v11 φ.v12 (broadcastInDim S8x2048x1024 ![0, 1, 2] bcast_S1x1x1024_S8x2048x1024_0_1_2),
    StableHlo.TRef.binary φ.v8 φ.v12 φ.v13 addf] ++
  argminOps φ.v13 φ.call0 ++
  takeOps arg3 φ.call0.v1_1 φ.call1 ++
  [StableHlo.TRef.binary arg0 φ.call1.v16 φ.v16 subf,
    StableHlo.TRef.binary φ.v16 φ.v16 φ.v17 mulf,
    StableHlo.TRef.nullary φ.cst_2 (constant S_ .f32 0x00000000#32),
    StableHlo.TRef.binary φ.v17 φ.cst_2 φ.v18 (fun x v => Host.reduceAdd x v reducesTo_S8x2048x256_S_d0_1_2 h_S_),
    StableHlo.TRef.nullary φ.cst_3 (constant S_ .f32 0x4A800000#32),
    StableHlo.TRef.binary φ.v18 φ.cst_3 φ.v19 Host.divf,
    StableHlo.TRef.binary arg2 φ.v19 φ.v20 addf,
    StableHlo.TRef.binary φ.call1.v16 arg0 φ.v21 subf,
    StableHlo.TRef.binary arg0 φ.v21 φ.v22 addf,
    StableHlo.TRef.binary arg0 φ.call1.v16 φ.v23 subf,
    StableHlo.TRef.binary arg1 φ.v22 φ.v24 addf]

theorem stage_seq (arg0 : StableHlo.TRef sig ⟨S8x2048x256, .f32⟩) (arg1 : StableHlo.TRef sig ⟨S8x2048x256, .f32⟩) (arg2 : StableHlo.TRef sig ⟨S_, .f32⟩) (arg3 : StableHlo.TRef sig ⟨S1024x256, .f32⟩) (φ : fn_stage.Bufs) :
    IsSeq (nD := nD) (fn_stage.body (F := F) arg0 arg1 arg2 arg3 φ) (stageOps arg0 arg1 arg2 arg3 φ) := by
  hlo_seq

/-- The host operations of one call of the padding of the quantised array, in order. -/
def padQOps (arg0 : StableHlo.TRef sig ⟨S8x256x2048, .f32⟩) (arg1 : StableHlo.TRef sig ⟨S_, .i32⟩) (φ : fn_pad_0.Bufs) : List (HloOp τ sig (Elt F)) :=
  [StableHlo.TRef.unary arg1 φ.v0 (sitofp .f32),
    StableHlo.TRef.binary arg0 φ.v0 φ.v1 (fun x v => pad S8x256x2050 ![0, 0, 1] ![0, 0, 1] ![0, 0, 0] x v pads_S8x256x2048_S8x256x2050_000_000_110 h_S_)]

theorem padQ_seq (arg0 : StableHlo.TRef sig ⟨S8x256x2048, .f32⟩) (arg1 : StableHlo.TRef sig ⟨S_, .i32⟩) (φ : fn_pad_0.Bufs) :
    IsSeq (nD := nD) (fn_pad_0.body (F := F) arg0 arg1 φ) (padQOps arg0 arg1 φ) := by
  hlo_seq

/-- The host operations of one call of the decoder convolution, in order. -/
def decodeOps (arg0 : StableHlo.TRef sig ⟨S8x256x2048, .f32⟩) (arg1 : StableHlo.TRef sig ⟨S1x256x3, .f32⟩) (arg2 : StableHlo.TRef sig ⟨S1, .f32⟩) (φ : fn_decode.Bufs) : List (HloOp τ sig (Elt F)) :=
  [StableHlo.TRef.nullary φ.c (constantI S_ 32 0#32)] ++
  padQOps arg0 φ.c φ.call0 ++
  [StableHlo.TRef.unary φ.call0.v1 φ.v1 (extractStridedSlice S8x256x2048 ![0, 0, 0] · slices_S8x256x2050_S8x256x2048_0_0_0),
    StableHlo.TRef.unary arg1 φ.v2 (extractStridedSlice S1x256x1 ![0, 0, 0] · slices_S1x256x3_S1x256x1_0_0_0),
    StableHlo.TRef.reshape φ.v2 φ.v3 (rfl : (.f32 : EltTy) = .f32) shapeCasts_S1x256x1_S1x256,
    StableHlo.TRef.binary φ.v3 φ.v1 φ.v4 (fun l r => Host.dotGeneral dot_S1x256_S8x256x2048_S1x8x2048_1_1_0_02_n_n none l r),
    StableHlo.TRef.unary φ.v4 φ.v5 (transpose S8x1x2048 [1, 0, 2] · transposes_S1x8x2048_S8x1x2048_1_0_2),
    StableHlo.TRef.nullary φ.cst (constant S_ .f32 0x00000000#32),
    StableHlo.TRef.unary φ.cst φ.v6 (broadcastInDim S8x1x2048 ![] bcast_S_S8x1x2048),
    StableHlo.TRef.binary φ.v6 φ.v5 φ.v7 addf,
    StableHlo.TRef.unary φ.call0.v1 φ.v8 (extractStridedSlice S8x256x2048 ![0, 0, 1] · slices_S8x256x2050_S8x256x2048_0_0_1),
    StableHlo.TRef.unary arg1 φ.v9 (extractStridedSlice S1x256x1 ![0, 0, 1] · slices_S1x256x3_S1x256x1_0_0_1),
    StableHlo.TRef.reshape φ.v9 φ.v10 (rfl : (.f32 : EltTy) = .f32) shapeCasts_S1x256x1_S1x256,
    StableHlo.TRef.binary φ.v10 φ.v8 φ.v11 (fun l r => Host.dotGeneral dot_S1x256_S8x256x2048_S1x8x2048_1_1_0_02_n_n none l r),
    StableHlo.TRef.unary φ.v11 φ.v12 (transpose S8x1x2048 [1, 0, 2] · transposes_S1x8x2048_S8x1x2048_1_0_2),
    StableHlo.TRef.binary φ.v7 φ.v12 φ.v13 addf,
    StableHlo.TRef.unary φ.call0.v1 φ.v14 (extractStridedSlice S8x256x2048 ![0, 0, 2] · slices_S8x256x2050_S8x256x2048_0_0_2),
    StableHlo.TRef.unary arg1 φ.v15 (extractStridedSlice S1x256x1 ![0, 0, 2] · slices_S1x256x3_S1x256x1_0_0_2),
    StableHlo.TRef.reshape φ.v15 φ.v16 (rfl : (.f32 : EltTy) = .f32) shapeCasts_S1x256x1_S1x256,
    StableHlo.TRef.binary φ.v16 φ.v14 φ.v17 (fun l r => Host.dotGeneral dot_S1x256_S8x256x2048_S1x8x2048_1_1_0_02_n_n none l r),
    StableHlo.TRef.unary φ.v17 φ.v18 (transpose S8x1x2048 [1, 0, 2] · transposes_S1x8x2048_S8x1x2048_1_0_2),
    StableHlo.TRef.binary φ.v13 φ.v18 φ.v19 addf,
    StableHlo.TRef.unary arg2 φ.v20 (broadcastInDim S1x1x1 ![1] bcast_S1_S1x1x1_1),
    StableHlo.TRef.unary φ.v20 φ.v21 (broadcastInDim S8x1x2048 ![0, 1, 2] bcast_S1x1x1_S8x1x2048_0_1_2),
    StableHlo.TRef.binary φ.v19 φ.v21 φ.v22 addf]

theorem decode_seq (arg0 : StableHlo.TRef sig ⟨S8x256x2048, .f32⟩) (arg1 : StableHlo.TRef sig ⟨S1x256x3, .f32⟩) (arg2 : StableHlo.TRef sig ⟨S1, .f32⟩) (φ : fn_decode.Bufs) :
    IsSeq (nD := nD) (fn_decode.body (F := F) arg0 arg1 arg2 φ) (decodeOps arg0 arg1 arg2 φ) := by
  hlo_seq

/-- The operations between the encoder and the first stage: the residual's layout, the zero of the quantised sum, the first codebook. -/
def midOps0 : List (HloOp τ sig (Elt F)) :=
  [StableHlo.unary main_v0 main_v1 ((transpose S8x2048x256 [0, 2, 1] · transposes_S8x256x2048_S8x2048x256_0_2_1) : (⟨S8x256x2048, .f32⟩ : BufTy).Contents (Elt F) → (⟨S8x2048x256, .f32⟩ : BufTy).Contents (Elt F)),
    StableHlo.nullary main_cst (constant S_ .f32 0x00000000#32),
    StableHlo.unary main_cst main_v2 (broadcastInDim S8x2048x256 ![] bcast_S_S8x2048x256 : (⟨S_, .f32⟩ : BufTy).Contents (Elt F) → (⟨S8x2048x256, .f32⟩ : BufTy).Contents (Elt F)),
    StableHlo.unary main_arg5 main_v3 ((extractStridedSlice S1x1024x256 ![0, 0, 0] · slices_S8x1024x256_S1x1024x256_0_0_0) : (⟨S8x1024x256, .f32⟩ : BufTy).Contents (Elt F) → (⟨S1x1024x256, .f32⟩ : BufTy).Contents (Elt F)),
    StableHlo.reshape main_v3 main_v4 (rfl : (.f32 : EltTy) = .f32) shapeCasts_S1x1024x256_S1024x256,
    StableHlo.nullary main_cst_0 (constant S_ .f32 0x00000000#32)]

/-- The operations before stage 1: its codebook. -/
def midOps1 : List (HloOp τ sig (Elt F)) :=
  [StableHlo.unary main_arg5 main_v6 ((extractStridedSlice S1x1024x256 ![1, 0, 0] · slices_S8x1024x256_S1x1024x256_1_0_0) : (⟨S8x1024x256, .f32⟩ : BufTy).Contents (Elt F) → (⟨S1x1024x256, .f32⟩ : BufTy).Contents (Elt F)),
    StableHlo.reshape main_v6 main_v7 (rfl : (.f32 : EltTy) = .f32) shapeCasts_S1x1024x256_S1024x256]

/-- The operations before stage 2: its codebook. -/
def midOps2 : List (HloOp τ sig (Elt F)) :=
  [StableHlo.unary main_arg5 main_v9 ((extractStridedSlice S1x1024x256 ![2, 0, 0] · slices_S8x1024x256_S1x1024x256_2_0_0) : (⟨S8x1024x256, .f32⟩ : BufTy).Contents (Elt F) → (⟨S1x1024x256, .f32⟩ : BufTy).Contents (Elt F)),
    StableHlo.reshape main_v9 main_v10 (rfl : (.f32 : EltTy) = .f32) shapeCasts_S1x1024x256_S1024x256]

/-- The operations before stage 3: its codebook. -/
def midOps3 : List (HloOp τ sig (Elt F)) :=
  [StableHlo.unary main_arg5 main_v12 ((extractStridedSlice S1x1024x256 ![3, 0, 0] · slices_S8x1024x256_S1x1024x256_3_0_0) : (⟨S8x1024x256, .f32⟩ : BufTy).Contents (Elt F) → (⟨S1x1024x256, .f32⟩ : BufTy).Contents (Elt F)),
    StableHlo.reshape main_v12 main_v13 (rfl : (.f32 : EltTy) = .f32) shapeCasts_S1x1024x256_S1024x256]

/-- The operations before stage 4: its codebook. -/
def midOps4 : List (HloOp τ sig (Elt F)) :=
  [StableHlo.unary main_arg5 main_v15 ((extractStridedSlice S1x1024x256 ![4, 0, 0] · slices_S8x1024x256_S1x1024x256_4_0_0) : (⟨S8x1024x256, .f32⟩ : BufTy).Contents (Elt F) → (⟨S1x1024x256, .f32⟩ : BufTy).Contents (Elt F)),
    StableHlo.reshape main_v15 main_v16 (rfl : (.f32 : EltTy) = .f32) shapeCasts_S1x1024x256_S1024x256]

/-- The operations before stage 5: its codebook. -/
def midOps5 : List (HloOp τ sig (Elt F)) :=
  [StableHlo.unary main_arg5 main_v18 ((extractStridedSlice S1x1024x256 ![5, 0, 0] · slices_S8x1024x256_S1x1024x256_5_0_0) : (⟨S8x1024x256, .f32⟩ : BufTy).Contents (Elt F) → (⟨S1x1024x256, .f32⟩ : BufTy).Contents (Elt F)),
    StableHlo.reshape main_v18 main_v19 (rfl : (.f32 : EltTy) = .f32) shapeCasts_S1x1024x256_S1024x256]

/-- The operations before stage 6: its codebook. -/
def midOps6 : List (HloOp τ sig (Elt F)) :=
  [StableHlo.unary main_arg5 main_v21 ((extractStridedSlice S1x1024x256 ![6, 0, 0] · slices_S8x1024x256_S1x1024x256_6_0_0) : (⟨S8x1024x256, .f32⟩ : BufTy).Contents (Elt F) → (⟨S1x1024x256, .f32⟩ : BufTy).Contents (Elt F)),
    StableHlo.reshape main_v21 main_v22 (rfl : (.f32 : EltTy) = .f32) shapeCasts_S1x1024x256_S1024x256]

/-- The operations before stage 7: its codebook. -/
def midOps7 : List (HloOp τ sig (Elt F)) :=
  [StableHlo.unary main_arg5 main_v24 ((extractStridedSlice S1x1024x256 ![7, 0, 0] · slices_S8x1024x256_S1x1024x256_7_0_0) : (⟨S8x1024x256, .f32⟩ : BufTy).Contents (Elt F) → (⟨S1x1024x256, .f32⟩ : BufTy).Contents (Elt F)),
    StableHlo.reshape main_v24 main_v25 (rfl : (.f32 : EltTy) = .f32) shapeCasts_S1x1024x256_S1024x256]

/-- The operations between the last stage and the decoder: the layout back and the mean over the stages. -/
def midOps8 : List (HloOp τ sig (Elt F)) :=
  [StableHlo.unary main_v26_1 main_v27 ((transpose S8x256x2048 [0, 2, 1] · transposes_S8x2048x256_S8x256x2048_0_2_1) : (⟨S8x2048x256, .f32⟩ : BufTy).Contents (Elt F) → (⟨S8x256x2048, .f32⟩ : BufTy).Contents (Elt F)),
    StableHlo.nullary main_cst_1 (constant S_ .f32 0x41000000#32),
    StableHlo.binary main_v26_2 main_cst_1 main_v28 (Host.divf : (⟨S_, .f32⟩ : BufTy).Contents (Elt F) → (⟨S_, .f32⟩ : BufTy).Contents (Elt F) → (⟨S_, .f32⟩ : BufTy).Contents (Elt F))]

/-- The whole reference program. -/
def mainOps : List (HloOp τ sig (Elt F)) :=
  encodeOps (.of main_arg0) (.of main_arg1) (.of main_arg2) main_call0 ++ (
  midOps0 ++ (
  stageOps (.of main_v1) (.of main_v2) (.of main_cst_0) (.of main_v4) main_call1 ++ (
  midOps1 ++ (
  stageOps (.of main_v5_0) (.of main_v5_1) (.of main_v5_2) (.of main_v7) main_call2 ++ (
  midOps2 ++ (
  stageOps (.of main_v8_0) (.of main_v8_1) (.of main_v8_2) (.of main_v10) main_call3 ++ (
  midOps3 ++ (
  stageOps (.of main_v11_0) (.of main_v11_1) (.of main_v11_2) (.of main_v13) main_call4 ++ (
  midOps4 ++ (
  stageOps (.of main_v14_0) (.of main_v14_1) (.of main_v14_2) (.of main_v16) main_call5 ++ (
  midOps5 ++ (
  stageOps (.of main_v17_0) (.of main_v17_1) (.of main_v17_2) (.of main_v19) main_call6 ++ (
  midOps6 ++ (
  stageOps (.of main_v20_0) (.of main_v20_1) (.of main_v20_2) (.of main_v22) main_call7 ++ (
  midOps7 ++ (
  stageOps (.of main_v23_0) (.of main_v23_1) (.of main_v23_2) (.of main_v25) main_call8 ++ (
  midOps8 ++ (
  decodeOps (.of main_v27) (.of main_arg3) (.of main_arg4) main_call9))))))))))))))))))

/-- A printed call followed by the rest of a program runs its list followed by the rest's. -/
theorem run_append {p k : Prog (TpuEff nD τ sig (Elt F) (Pipeline.Sig Λ₀ (Fin 0) fun p => (pcfgs (F := F) p).Adm) .tc) PUnit}
    {l l' : List (HloOp τ sig (Elt F))} (hp : IsSeq p l) (hk : IsSeq k l') : IsSeq (p >>= fun _ => k) (l ++ l') := by
  unfold IsSeq at hp hk ⊢
  rw [hp, hk, seq_append]

/-- A program that runs a list runs it with the empty list appended. -/
theorem run_last {p : Prog (TpuEff nD τ sig (Elt F) (Pipeline.Sig Λ₀ (Fin 0) fun p => (pcfgs (F := F) p).Adm) .tc) PUnit}
    {l : List (HloOp τ sig (Elt F))} (hp : IsSeq p l) : IsSeq (p >>= fun _ => pure ⟨⟩) l := by
  unfold IsSeq at hp ⊢
  rw [hp]
  exact (seq_append l []).symm.trans (by rw [List.append_nil])

theorem main_seq (d : Dev nD) : IsSeq (main (F := F) d) mainOps := by
  unfold mainOps midOps0 midOps1 midOps2 midOps3 midOps4 midOps5 midOps6 midOps7 midOps8
  simp only [List.cons_append, List.nil_append]
  unfold main
  refine run_append (encode_seq (F := F) (.of main_arg0) (.of main_arg1) (.of main_arg2) main_call0) ?_
  iterate 6 apply IsSeq.cons
  refine run_append (stage_seq (F := F) (.of main_v1) (.of main_v2) (.of main_cst_0) (.of main_v4) main_call1) ?_
  iterate 2 apply IsSeq.cons
  refine run_append (stage_seq (F := F) (.of main_v5_0) (.of main_v5_1) (.of main_v5_2) (.of main_v7) main_call2) ?_
  iterate 2 apply IsSeq.cons
  refine run_append (stage_seq (F := F) (.of main_v8_0) (.of main_v8_1) (.of main_v8_2) (.of main_v10) main_call3) ?_
  iterate 2 apply IsSeq.cons
  refine run_append (stage_seq (F := F) (.of main_v11_0) (.of main_v11_1) (.of main_v11_2) (.of main_v13) main_call4) ?_
  iterate 2 apply IsSeq.cons
  refine run_append (stage_seq (F := F) (.of main_v14_0) (.of main_v14_1) (.of main_v14_2) (.of main_v16) main_call5) ?_
  iterate 2 apply IsSeq.cons
  refine run_append (stage_seq (F := F) (.of main_v17_0) (.of main_v17_1) (.of main_v17_2) (.of main_v19) main_call6) ?_
  iterate 2 apply IsSeq.cons
  refine run_append (stage_seq (F := F) (.of main_v20_0) (.of main_v20_1) (.of main_v20_2) (.of main_v22) main_call7) ?_
  iterate 2 apply IsSeq.cons
  refine run_append (stage_seq (F := F) (.of main_v23_0) (.of main_v23_1) (.of main_v23_2) (.of main_v25) main_call8) ?_
  iterate 3 apply IsSeq.cons
  refine run_last (decode_seq (F := F) (.of main_v27) (.of main_arg3) (.of main_arg4) main_call9)

end Cert.RefIdeal

end
-- ==== Proof.RefStage.lean ====
module

public import proofs.«01_k».proof.Proof.RefOps
public import Idealize.ShloMosaic.Lib.StableHlo.RunRead

/-! What one call of each printed function of the reference leaves in its result buffers, as a function of what its
    argument buffers hold. -/

@[expose] public section

set_option maxRecDepth 65536

noncomputable section

namespace Cert.RefIdeal

open Idealize.ShloMosaic Idealize.ShloMosaic.StableHlo Idealize.SL.Sem Cert.ReferenceIdeal Cert.ReferenceIdeal.Facts₀ Cert.ReferenceIdeal.Facts

attribute [local instance] Cert.ReferenceIdeal.Gen.facts

variable {F : FTy → Type} [FloatOps F]

/-- The squared distances of every residual row to every codeword, up to the product's rounding. -/
def dist (r : Vec F S8x2048x256 .f32) (cb : Vec F S1024x256 .f32) : Vec F S8x2048x1024 .f32 :=
  addf
    (subf
      (broadcastInDim S8x2048x1024 ![0, 1, 2] bcast_S8x2048x1_S8x2048x1024_0_1_2
        (broadcastInDim S8x2048x1 ![0, 1] bcast_S8x2048_S8x2048x1_0_1
          (Host.reduceAdd (mulf r r) (constant S_ .f32 0x00000000#32) reducesTo_S8x2048x256_S8x2048_d2 h_S_)))
      (Host.dotGeneral dot_S8x2048x256_S256x1024_S8x2048x1024_2_0_01_1_n_n none
        (mulf (broadcastInDim S8x2048x256 ![] bcast_S_S8x2048x256 (constant S_ .f32 0x40000000#32)) r)
        (transpose S256x1024 [1, 0] cb transposes_S1024x256_S256x1024_1_0)))
    (broadcastInDim S8x2048x1024 ![0, 1, 2] bcast_S1x1x1024_S8x2048x1024_0_1_2
      (broadcastInDim S1x1x1024 ![2] bcast_S1024_S1x1x1024_2
        (Host.reduceAdd (mulf cb cb) (constant S_ .f32 0x00000000#32) reducesTo_S1024x256_S1024_d1 h_S_)))

/-- The indices an arg-reduction returns. -/
def argIndex {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 := fun j => (Host.argReduce f x y ix iy h hu j).2

/-- The index of each row's nearest codeword. -/
def nearest (d : Vec F S8x2048x1024 .f32) : IVec S8x2048 32 :=
  argIndex reducer_argmin_f32_i32 d (iotaInDim S8x2048x1024 32 2) (constant S_ .f32 0x7F800000#32)
    (constantI S_ 32 0#32) reducesTo_S8x2048x1024_S8x2048_d2 h_S_

/-- A negative index counted from the end, as a column. -/
def wrapped (i : IVec S8x2048 32) : IVec S8x2048x1 32 :=
  broadcastInDim S8x2048x1 ![0, 1] bcast_S8x2048_S8x2048x1_0_1
    (select (cmpi .slt i (broadcastInDim S8x2048 ![] bcast_S_S8x2048 (constantI S_ 32 0#32)))
      (addi i (broadcastInDim S8x2048 ![] bcast_S_S8x2048 (constantI S_ 32 1024#32))) i)

/-- Whether a looked-up index lies inside the codebook. -/
def inside (w : IVec S8x2048x1 32) : IVec S8x2048 1 :=
  Host.reduce IntOp.andi
    (andi (cmpi .sge w (broadcastInDim S8x2048x1 ![] bcast_S_S8x2048x1 (constantI S_ 32 0#32)))
      (cmpi .sle w (broadcastInDim S8x2048x1 ![0, 1, 2] bcast_S1x1x1_S8x2048x1_0_1_2
        (broadcastInDim S1x1x1 ![2] bcast_S1_S1x1x1_2 (constantI S1 32 1023#32)))))
    (constantI S_ 1 1#1) reducesTo_S8x2048x1_S8x2048_d2 h_S_

/-- The codewords looked up at an index per row. -/
def lookup (cb : Vec F S1024x256 .f32) (i : IVec S8x2048 32) : Vec F S8x2048x256 .f32 :=
  select (broadcastInDim S8x2048x256 ![0, 1] bcast_S8x2048_S8x2048x256_0_1 (inside (wrapped i)))
    (Host.gather gather_S1024x256_S8x2048x1_S8x2048x256_2_0_n_n_0_2_1256 cb (wrapped i))
    (broadcastInDim S8x2048x256 ![] bcast_S_S8x2048x256 (constant S_ .f32 0x7FC00000#32))

/-- The codewords a stage chooses. -/
def chosen (r : Vec F S8x2048x256 .f32) (cb : Vec F S1024x256 .f32) : Vec F S8x2048x256 .f32 :=
  lookup cb (nearest (dist r cb))

/-- A stage's new residual. -/
def newResidual (r : Vec F S8x2048x256 .f32) (cb : Vec F S1024x256 .f32) : Vec F S8x2048x256 .f32 :=
  subf r (chosen r cb)

/-- A stage's new quantised sum. -/
def newQuantized (r z : Vec F S8x2048x256 .f32) (cb : Vec F S1024x256 .f32) : Vec F S8x2048x256 .f32 :=
  addf z (addf r (subf (chosen r cb) r))

/-- A stage's new commitment loss. -/
def newLoss (r : Vec F S8x2048x256 .f32) (l : Vec F S_ .f32) (cb : Vec F S1024x256 .f32) : Vec F S_ .f32 :=
  addf l (Host.divf
    (Host.reduceAdd (mulf (newResidual r cb) (newResidual r cb)) (constant S_ .f32 0x00000000#32)
      reducesTo_S8x2048x256_S_d0_1_2 h_S_)
    (constant S_ .f32 0x4A800000#32))

/-- Two buffer contents that hold the same arguments. -/
def SameArgs (V V' : Valuation τ sig (Elt F)) : Prop :=
  V' (Proc.devRef .tc main_arg0) = V (Proc.devRef .tc main_arg0) ∧ V' (Proc.devRef .tc main_arg1) = V (Proc.devRef .tc main_arg1)
    ∧ V' (Proc.devRef .tc main_arg2) = V (Proc.devRef .tc main_arg2) ∧ V' (Proc.devRef .tc main_arg3) = V (Proc.devRef .tc main_arg3)
    ∧ V' (Proc.devRef .tc main_arg4) = V (Proc.devRef .tc main_arg4) ∧ V' (Proc.devRef .tc main_arg5) = V (Proc.devRef .tc main_arg5)

/-- The buffers of the eight calls of the stage. -/
def calls : Fin 8 → fn_stage.Bufs :=
  ![main_call1, main_call2, main_call3, main_call4, main_call5, main_call6, main_call7, main_call8]

/-- Where the residual lies before each stage. -/
def resAt : Fin 8 → TRef sig ⟨S8x2048x256, .f32⟩ :=
  ![.of main_v1, .of main_v5_0, .of main_v8_0, .of main_v11_0, .of main_v14_0, .of main_v17_0, .of main_v20_0,
    .of main_v23_0]

/-- Where the quantised sum lies before each stage. -/
def quantAt : Fin 8 → TRef sig ⟨S8x2048x256, .f32⟩ :=
  ![.of main_v2, .of main_v5_1, .of main_v8_1, .of main_v11_1, .of main_v14_1, .of main_v17_1, .of main_v20_1,
    .of main_v23_1]

/-- Where the loss lies before each stage. -/
def lossAt : Fin 8 → TRef sig ⟨S_, .f32⟩ :=
  ![.of main_cst_0, .of main_v5_2, .of main_v8_2, .of main_v11_2, .of main_v14_2, .of main_v17_2, .of main_v20_2,
    .of main_v23_2]

/-- Where each stage's codebook lies. -/
def bookAt : Fin 8 → TRef sig ⟨S1024x256, .f32⟩ :=
  ![.of main_v4, .of main_v7, .of main_v10, .of main_v13, .of main_v16, .of main_v19, .of main_v22, .of main_v25]

/-- The operations of stage `k`. -/
def stageAt (k : Fin 8) : List (HloOp τ sig (Elt F)) :=
  stageOps (resAt k) (quantAt k) (lossAt k) (bookAt k) (calls k)

theorem stage_reads (k : Fin 8) (V : Valuation τ sig (Elt F)) :
    (calls k).v23.ofBuf (after (stageAt k) V (Proc.devRef .tc (calls k).v23.ref))
        = newResidual ((resAt k).ofBuf (V (Proc.devRef .tc (resAt k).ref))) ((bookAt k).ofBuf (V (Proc.devRef .tc (bookAt k).ref)))
      ∧ (calls k).v24.ofBuf (after (stageAt k) V (Proc.devRef .tc (calls k).v24.ref))
        = newQuantized ((resAt k).ofBuf (V (Proc.devRef .tc (resAt k).ref))) ((quantAt k).ofBuf (V (Proc.devRef .tc (quantAt k).ref)))
            ((bookAt k).ofBuf (V (Proc.devRef .tc (bookAt k).ref)))
      ∧ (calls k).v20.ofBuf (after (stageAt k) V (Proc.devRef .tc (calls k).v20.ref))
        = newLoss ((resAt k).ofBuf (V (Proc.devRef .tc (resAt k).ref))) ((lossAt k).ofBuf (V (Proc.devRef .tc (lossAt k).ref)))
            ((bookAt k).ofBuf (V (Proc.devRef .tc (bookAt k).ref)))
      ∧ SameArgs V (after (stageAt k) V) := by
  fin_cases k <;>
  · simp only [stageAt, stageOps, argminOps, takeOps, whereOps, calls, resAt, quantAt, lossAt, bookAt, Matrix.cons_val,
      List.cons_append, List.nil_append, Fin.mk_zero, Fin.mk_one, Fin.reduceFinMk]
    refine ⟨?_, ?_, ?_, ?_, ?_, ?_, ?_, ?_, ?_⟩ <;> after_reads_simp <;> simp only [TRef.ofBuf_toBuf] <;> rfl

end Cert.RefIdeal

end
-- ==== Proof.RefNearest.lean ====
module

public import proofs.«01_k».proof.Proof.RefStage
public import proofs.«01_k».proof.Proof.Nearest
public import Mathlib.Data.Prod.Lex

/-! The index the reference's arg-min returns for a row of real distances: the first place where they are least. The fold
    runs over the row's (distance, index) pairs and keeps the smaller one, distances first and indices next. -/

@[expose] public section

set_option maxRecDepth 65536

noncomputable section

namespace Cert.RefIdeal

open Idealize.ShloMosaic Cert.ReferenceIdeal Cert.ReferenceIdeal.Facts₀ Cert.ReferenceIdeal.Facts Cert.Nearest

attribute [local instance] Cert.ReferenceIdeal.Gen.facts

/-- What the fold compares: the distance, and among equal distances the index. -/
def key (p : EReal × BitVec 32) : Lex (EReal × ℤ) := toLex (p.1, p.2.toInt)

theorem key_lt (p q : EReal × BitVec 32) : key p < key q ↔ p.1 < q.1 ∨ p.1 = q.1 ∧ p.2.toInt < q.2.toInt :=
  Prod.Lex.toLex_lt_toLex

theorem key_le (p q : EReal × BitVec 32) : key p ≤ key q ↔ p.1 < q.1 ∨ p.1 = q.1 ∧ p.2.toInt ≤ q.2.toInt :=
  Prod.Lex.toLex_le_toLex

/-- The fold's step keeps the smaller pair, the new one on a tie. -/
theorem reducer_eq (p q : EReal × BitVec 32) :
    reducer_argmin_f32_i32 (F := Ideal) p q = if key p < key q then p else q := by
  obtain ⟨a, i⟩ := p
  obtain ⟨b, k⟩ := q
  simp only [reducer_argmin_f32_i32, Ideal.cmpf_def, Ideal.cmp, IntOp.cmpi, IntOp.ori, IntOp.andi, Scalar.select, key_lt]
  by_cases h1 : a < b
  · have h2 : a ≠ b := h1.ne
    simp [h1, h2]
  · by_cases h2 : a = b
    · subst h2
      by_cases h3 : i.toInt < k.toInt
      · simp [BitVec.slt, h3]
      · simp [BitVec.slt, h3]
    · simp [h1, h2]

/-- The fold returns a least pair. -/
theorem fold_spec (L : List (EReal × BitVec 32)) (p : EReal × BitVec 32) :
    (L.foldl (reducer_argmin_f32_i32 (F := Ideal)) p = p ∨ L.foldl (reducer_argmin_f32_i32 (F := Ideal)) p ∈ L)
      ∧ key (L.foldl (reducer_argmin_f32_i32 (F := Ideal)) p) ≤ key p
      ∧ ∀ q ∈ L, key (L.foldl (reducer_argmin_f32_i32 (F := Ideal)) p) ≤ key q := by
  induction L generalizing p with
  | nil => simp
  | cons q L ih =>
    simp only [List.foldl_cons, reducer_eq p q]
    obtain ⟨h1, h2, h3⟩ := ih (if key p < key q then p else q)
    by_cases h : key p < key q
    · simp only [if_pos h] at h1 h2 h3 ⊢
      refine ⟨h1.imp id (List.mem_cons_of_mem _), h2, fun r hr => ?_⟩
      rcases List.mem_cons.1 hr with rfl | hr
      · exact h2.trans h.le
      · exact h3 r hr
    · simp only [if_neg h] at h1 h2 h3 ⊢
      refine ⟨Or.inr (h1.elim (fun e => by rw [e]; exact List.mem_cons_self) (List.mem_cons_of_mem _)),
        h2.trans (not_lt.1 h), fun r hr => ?_⟩
      rcases List.mem_cons.1 hr with rfl | hr
      · exact h2
      · exact h3 r hr

theorem drop_row (b : Fin 8) (t : Fin 2048) (i : S8x2048x1024.Idx) :
    reducesTo_S8x2048x1024_S8x2048_d2.drop i = ix2 b t ↔ i = ix3 b t (i 2) := by
  have h0 : (reducesTo_S8x2048x1024_S8x2048_d2.drop i 0).val = (i 0).val :=
    Shape.ReducesTo.drop_apply_val_of_eq _ i 0 0
  have h1 : (reducesTo_S8x2048x1024_S8x2048_d2.drop i 1).val = (i 1).val :=
    Shape.ReducesTo.drop_apply_val_of_eq _ i 1 1
  constructor
  · intro h
    rw [h] at h0 h1
    funext a
    fin_cases a
    · exact Fin.ext h0.symm
    · exact Fin.ext h1.symm
    · rfl
  · intro h
    have e0 : (i 0).val = b.val := congrArg Fin.val (congrFun h 0)
    have e1 : (i 1).val = t.val := congrArg Fin.val (congrFun h 1)
    funext a
    fin_cases a
    · exact Fin.ext (h0.trans e0)
    · exact Fin.ext (h1.trans e1)

/-- The pairs a fold runs over are those of the indices that drop to its place. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The arg-min's index at a place, from a list of pairs that are a family's values and numbers. -/
theorem least_pair (L : List (EReal × BitVec 32)) (f : Fin 1024 → ℝ) (init : EReal × BitVec 32) (hi : init.1 = ⊤)
    (h : ∀ p, p ∈ L ↔ ∃ k : Fin 1024, p = (((f k : ℝ) : EReal), BitVec.ofNat 32 k.val)) :
    (L.foldl (reducer_argmin_f32_i32 (F := Ideal)) init).2 = BitVec.ofNat 32 (amin f).val := by
  obtain ⟨h1, h2, h3⟩ := fold_spec L init
  have hm : L.foldl (reducer_argmin_f32_i32 (F := Ideal)) init ∈ L := by
    refine h1.resolve_left fun e => ?_
    have := h3 _ ((h _).2 ⟨0, rfl⟩)
    rw [e, key_le, hi] at this
    rcases this with h' | h'
    · exact absurd h' (not_lt.2 le_top)
    · exact absurd h'.1.symm (EReal.coe_ne_top _)
  obtain ⟨k, hk⟩ := (h _).1 hm
  have h4 : ∀ j, f k < f j ∨ f k = f j ∧ k ≤ j := fun j => by
    have := h3 _ ((h _).2 ⟨j, rfl⟩)
    rw [hk, key_le] at this
    simp only [EReal.coe_lt_coe_iff, EReal.coe_eq_coe_iff, toInt_small _ k.isLt.le, toInt_small _ j.isLt.le] at this
    exact this.imp id fun e => ⟨e.1, by exact_mod_cast e.2⟩
  rw [hk, amin_unique f k (fun j => (h4 j).elim le_of_lt fun e => e.1.le)
    fun j e => (h4 j).elim (fun l => absurd e l.ne') fun e => e.2]

/-- The index an arg-reduction returns over the extended reals: its fold's. -/
theorem argIndex_apply {s t u : Shape} {axes : List (Fin s.rank)}
    (f : Ideal .f32 × BitVec 32 → Ideal .f32 × BitVec 32 → Ideal .f32 × BitVec 32) (x : FVec Ideal s .f32) (y : IVec s 32)
    (ix : FVec Ideal u .f32) (iy : IVec u 32) (h : s.ReducesTo axes t) (hu : 0 < u.numel) (j : t.Idx) :
    argIndex f x y ix iy h hu j
      = ((Host.argReduceFiber x y h j).foldl f (ix (Shape.Idx.first hu), iy (Shape.Idx.first hu))).2 := by
  unfold argIndex
  rw [Ideal.argReduce_eq_reduce2, Host.reduce2_eq_foldl_fiber]

/-- The row's pairs: its distances with their numbers. -/
theorem mem_row (x : FVec Ideal S8x2048x1024 .f32) (f : Fin 1024 → ℝ) (b : Fin 8) (t : Fin 2048)
    (hx : ∀ k, x (ix3 b t k) = ((f k : ℝ) : EReal)) (p : EReal × BitVec 32) :
    p ∈ Host.argReduceFiber (α := EReal) x (iotaInDim S8x2048x1024 32 2) reducesTo_S8x2048x1024_S8x2048_d2 (ix2 b t)
      ↔ ∃ k : Fin 1024, p = (((f k : ℝ) : EReal), BitVec.ofNat 32 k.val) := by
  refine (mem_fiber _ _ _ _ p).trans ⟨?_, ?_⟩
  · rintro ⟨i, hi, rfl⟩
    have hi := (drop_row b t i).1 hi
    generalize i 2 = k at hi
    subst hi
    exact ⟨k, Prod.ext (hx k) rfl⟩
  · rintro ⟨k, rfl⟩
    exact ⟨ix3 b t k, (drop_row b t _).2 rfl, Prod.ext (hx k).symm rfl⟩

/-- The index of a row of real distances. -/
theorem nearest_coe (x : Vec Ideal S8x2048x1024 .f32) (f : Fin 1024 → ℝ) (b : Fin 8) (t : Fin 2048)
    (hx : ∀ k, x (ix3 b t k) = ((f k : ℝ) : EReal)) : nearest x (ix2 b t) = BitVec.ofNat 32 (amin f).val := by
  unfold nearest
  rw [argIndex_apply]
  exact least_pair _ f _ ofBits_top (mem_row x f b t hx)

end Cert.RefIdeal

end
-- ==== Proof.RefRun.lean ====
module

public import proofs.«01_k».proof.Proof.RefStage

/-! The reference's run: what its two result buffers hold at the end, as a function of its arguments. -/

@[expose] public section

set_option maxRecDepth 65536

noncomputable section

namespace Cert.RefIdeal

open Idealize.ShloMosaic Idealize.ShloMosaic.StableHlo Idealize.SL.Sem Cert.ReferenceIdeal Cert.ReferenceIdeal.Facts₀ Cert.ReferenceIdeal.Facts

attribute [local instance] Cert.ReferenceIdeal.Gen.facts

variable {F : FTy → Type} [FloatOps F]

/-- The input padded by one zero on each side. -/
def padX (x : Vec F S8x1x2048 .f32) : Vec F S8x1x2050 .f32 :=
  pad S8x1x2050 ![0, 0, 1] ![0, 0, 1] ![0, 0, 0] x (sitofp .f32 (constantI S_ 32 0#32)) pads_S8x1x2048_S8x1x2050_000_000_110 h_S_

/-- One tap of the encoder: a shifted input against one column of weights. -/
def encTap (w : Vec F S256x1x1 .f32) (x : Vec F S8x1x2048 .f32) : Vec F S8x256x2048 .f32 :=
  transpose S8x256x2048 [1, 0, 2]
    (Host.dotGeneral dot_S256x1_S8x1x2048_S256x8x2048_1_1_0_02_n_n none (shapeCast S256x1 w shapeCasts_S256x1x1_S256x1) x)
    transposes_S256x8x2048_S8x256x2048_1_0_2

/-- The encoder convolution. -/
def encoded (x : Vec F S8x1x2048 .f32) (w : Vec F S256x1x3 .f32) (b : Vec F S256 .f32) : Vec F S8x256x2048 .f32 :=
  addf
    (addf
      (addf
        (addf (broadcastInDim S8x256x2048 ![] bcast_S_S8x256x2048 (constant S_ .f32 0x00000000#32))
          (encTap (extractStridedSlice S256x1x1 ![0, 0, 0] w slices_S256x1x3_S256x1x1_0_0_0)
            (extractStridedSlice S8x1x2048 ![0, 0, 0] (padX x) slices_S8x1x2050_S8x1x2048_0_0_0)))
        (encTap (extractStridedSlice S256x1x1 ![0, 0, 1] w slices_S256x1x3_S256x1x1_0_0_1)
          (extractStridedSlice S8x1x2048 ![0, 0, 1] (padX x) slices_S8x1x2050_S8x1x2048_0_0_1)))
      (encTap (extractStridedSlice S256x1x1 ![0, 0, 2] w slices_S256x1x3_S256x1x1_0_0_2)
        (extractStridedSlice S8x1x2048 ![0, 0, 2] (padX x) slices_S8x1x2050_S8x1x2048_0_0_2)))
    (broadcastInDim S8x256x2048 ![0, 1, 2] bcast_S1x256x1_S8x256x2048_0_1_2
      (broadcastInDim S1x256x1 ![1] bcast_S256_S1x256x1_1 b))

/-- The quantised array padded by one zero on each side. -/
def padQ (z : Vec F S8x256x2048 .f32) : Vec F S8x256x2050 .f32 :=
  pad S8x256x2050 ![0, 0, 1] ![0, 0, 1] ![0, 0, 0] z (sitofp .f32 (constantI S_ 32 0#32)) pads_S8x256x2048_S8x256x2050_000_000_110 h_S_

/-- One tap of the decoder. -/
def decTap (w : Vec F S1x256x1 .f32) (z : Vec F S8x256x2048 .f32) : Vec F S8x1x2048 .f32 :=
  transpose S8x1x2048 [1, 0, 2]
    (Host.dotGeneral dot_S1x256_S8x256x2048_S1x8x2048_1_1_0_02_n_n none (shapeCast S1x256 w shapeCasts_S1x256x1_S1x256) z)
    transposes_S1x8x2048_S8x1x2048_1_0_2

/-- The decoder convolution. -/
def decoded (z : Vec F S8x256x2048 .f32) (w : Vec F S1x256x3 .f32) (b : Vec F S1 .f32) : Vec F S8x1x2048 .f32 :=
  addf
    (addf
      (addf
        (addf (broadcastInDim S8x1x2048 ![] bcast_S_S8x1x2048 (constant S_ .f32 0x00000000#32))
          (decTap (extractStridedSlice S1x256x1 ![0, 0, 0] w slices_S1x256x3_S1x256x1_0_0_0)
            (extractStridedSlice S8x256x2048 ![0, 0, 0] (padQ z) slices_S8x256x2050_S8x256x2048_0_0_0)))
        (decTap (extractStridedSlice S1x256x1 ![0, 0, 1] w slices_S1x256x3_S1x256x1_0_0_1)
          (extractStridedSlice S8x256x2048 ![0, 0, 1] (padQ z) slices_S8x256x2050_S8x256x2048_0_0_1)))
      (decTap (extractStridedSlice S1x256x1 ![0, 0, 2] w slices_S1x256x3_S1x256x1_0_0_2)
        (extractStridedSlice S8x256x2048 ![0, 0, 2] (padQ z) slices_S8x256x2050_S8x256x2048_0_0_2)))
    (broadcastInDim S8x1x2048 ![0, 1, 2] bcast_S1x1x1_S8x1x2048_0_1_2
      (broadcastInDim S1x1x1 ![1] bcast_S1_S1x1x1_1 b))

/-- The codebook of each stage. -/
def book (c : Vec F S8x1024x256 .f32) : Fin 8 → Vec F S1024x256 .f32 :=
  ![shapeCast S1024x256 (extractStridedSlice S1x1024x256 ![0, 0, 0] c slices_S8x1024x256_S1x1024x256_0_0_0) shapeCasts_S1x1024x256_S1024x256,
    shapeCast S1024x256 (extractStridedSlice S1x1024x256 ![1, 0, 0] c slices_S8x1024x256_S1x1024x256_1_0_0) shapeCasts_S1x1024x256_S1024x256,
    shapeCast S1024x256 (extractStridedSlice S1x1024x256 ![2, 0, 0] c slices_S8x1024x256_S1x1024x256_2_0_0) shapeCasts_S1x1024x256_S1024x256,
    shapeCast S1024x256 (extractStridedSlice S1x1024x256 ![3, 0, 0] c slices_S8x1024x256_S1x1024x256_3_0_0) shapeCasts_S1x1024x256_S1024x256,
    shapeCast S1024x256 (extractStridedSlice S1x1024x256 ![4, 0, 0] c slices_S8x1024x256_S1x1024x256_4_0_0) shapeCasts_S1x1024x256_S1024x256,
    shapeCast S1024x256 (extractStridedSlice S1x1024x256 ![5, 0, 0] c slices_S8x1024x256_S1x1024x256_5_0_0) shapeCasts_S1x1024x256_S1024x256,
    shapeCast S1024x256 (extractStridedSlice S1x1024x256 ![6, 0, 0] c slices_S8x1024x256_S1x1024x256_6_0_0) shapeCasts_S1x1024x256_S1024x256,
    shapeCast S1024x256 (extractStridedSlice S1x1024x256 ![7, 0, 0] c slices_S8x1024x256_S1x1024x256_7_0_0) shapeCasts_S1x1024x256_S1024x256]

/-- The residual, the quantised sum and the loss before stage `k`. -/
def state (r : Vec F S8x2048x256 .f32) (cb : Fin 8 → Vec F S1024x256 .f32) :
    ℕ → Vec F S8x2048x256 .f32 × Vec F S8x2048x256 .f32 × Vec F S_ .f32
  | 0 => (r, broadcastInDim S8x2048x256 ![] bcast_S_S8x2048x256 (constant S_ .f32 0x00000000#32), constant S_ .f32 0x00000000#32)
  | k + 1 =>
    (newResidual (state r cb k).1 (cb (Fin.ofNat 8 k)),
     newQuantized (state r cb k).1 (state r cb k).2.1 (cb (Fin.ofNat 8 k)),
     newLoss (state r cb k).1 (state r cb k).2.2 (cb (Fin.ofNat 8 k)))

/-- Before stage `k` the buffers hold the state, the stage's codebook, and `V₀`'s arguments. -/
structure Inv (V₀ : Valuation τ sig (Elt F)) (r : Vec F S8x2048x256 .f32) (k : Fin 8) (V : Valuation τ sig (Elt F)) : Prop where
  res : (resAt k).ofBuf (V (Proc.devRef .tc (resAt k).ref)) = (state r (book (V₀ (Proc.devRef .tc main_arg5))) k.val).1
  quant : (quantAt k).ofBuf (V (Proc.devRef .tc (quantAt k).ref)) = (state r (book (V₀ (Proc.devRef .tc main_arg5))) k.val).2.1
  loss : (lossAt k).ofBuf (V (Proc.devRef .tc (lossAt k).ref)) = (state r (book (V₀ (Proc.devRef .tc main_arg5))) k.val).2.2
  book : (bookAt k).ofBuf (V (Proc.devRef .tc (bookAt k).ref)) = book (V₀ (Proc.devRef .tc main_arg5)) k
  args : SameArgs V₀ V

/-- The operations between two stages. -/
def midAt : Fin 7 → List (HloOp τ sig (Elt F)) := ![midOps1, midOps2, midOps3, midOps4, midOps5, midOps6, midOps7]

theorem mid_reads (k : Fin 7) (V : Valuation τ sig (Elt F)) :
    (resAt k.succ).ofBuf (after (midAt k) V (Proc.devRef .tc (resAt k.succ).ref))
        = (calls k.castSucc).v23.ofBuf (V (Proc.devRef .tc (calls k.castSucc).v23.ref))
      ∧ (quantAt k.succ).ofBuf (after (midAt k) V (Proc.devRef .tc (quantAt k.succ).ref))
        = (calls k.castSucc).v24.ofBuf (V (Proc.devRef .tc (calls k.castSucc).v24.ref))
      ∧ (lossAt k.succ).ofBuf (after (midAt k) V (Proc.devRef .tc (lossAt k.succ).ref))
        = (calls k.castSucc).v20.ofBuf (V (Proc.devRef .tc (calls k.castSucc).v20.ref))
      ∧ (bookAt k.succ).ofBuf (after (midAt k) V (Proc.devRef .tc (bookAt k.succ).ref)) = book (V (Proc.devRef .tc main_arg5)) k.succ
      ∧ SameArgs V (after (midAt k) V) := by
  fin_cases k <;>
  · simp only [midAt, midOps1, midOps2, midOps3, midOps4, midOps5, midOps6, midOps7, calls, resAt, quantAt, lossAt, bookAt, book,
      Matrix.cons_val, Fin.mk_zero, Fin.mk_one, Fin.reduceFinMk, Fin.reduceSucc, Fin.reduceCastSucc]
    refine ⟨?_, ?_, ?_, ?_, ?_, ?_, ?_, ?_, ?_, ?_⟩ <;> after_reads_simp <;> rfl

theorem SameArgs.trans {V V' V'' : Valuation τ sig (Elt F)} (h : SameArgs V V') (h' : SameArgs V' V'') : SameArgs V V'' := by
  obtain ⟨a, b, c, d, e, f⟩ := h
  obtain ⟨a', b', c', d', e', f'⟩ := h'
  exact ⟨a'.trans a, b'.trans b, c'.trans c, d'.trans d, e'.trans e, f'.trans f⟩

theorem Inv.step {V₀ V : Valuation τ sig (Elt F)} {r : Vec F S8x2048x256 .f32} {k : Fin 7} (h : Inv V₀ r k.castSucc V) :
    Inv V₀ r k.succ (after (midAt k) (after (stageAt k.castSucc) V)) := by
  obtain ⟨s1, s2, s3, s4⟩ := stage_reads k.castSucc V
  obtain ⟨m1, m2, m3, m4, m5⟩ := mid_reads k (after (stageAt k.castSucc) V)
  have hk : (Fin.ofNat 8 k.val) = k.castSucc := by ext; simp [Fin.ofNat]; omega
  rw [h.res, h.book] at s1 s2 s3
  rw [h.quant] at s2
  rw [h.loss] at s3
  have ha := (h.args.trans s4)
  refine ⟨?_, ?_, ?_, ?_, ha.trans m5⟩
  · rw [m1, s1, Fin.val_succ, state, hk]; rfl
  · rw [m2, s2, Fin.val_succ, state, hk]; rfl
  · rw [m3, s3, Fin.val_succ, state, hk]; rfl
  · rw [m4, ha.2.2.2.2.2]

/-- What the program starts its first stage with. -/
def firstResidual (V : Valuation τ sig (Elt F)) : Vec F S8x2048x256 .f32 :=
  transpose S8x2048x256 [0, 2, 1]
    (encoded (V (Proc.devRef .tc main_arg0)) (V (Proc.devRef .tc main_arg1)) (V (Proc.devRef .tc main_arg2)))
    transposes_S8x256x2048_S8x2048x256_0_2_1

theorem Inv.start (V : Valuation τ sig (Elt F)) :
    Inv V (firstResidual V) 0
      (after midOps0 (after (encodeOps (.of main_arg0) (.of main_arg1) (.of main_arg2) main_call0) V)) := by
  simp only [encodeOps, padOps, midOps0, List.cons_append, List.nil_append]
  refine ⟨?_, ?_, ?_, ?_, ?_, ?_, ?_, ?_, ?_, ?_⟩ <;> (try simp only [resAt, quantAt, lossAt, bookAt, Matrix.cons_val]) <;>
    after_reads_simp <;> (try simp only [TRef.ofBuf_toBuf]) <;> rfl

/-- The decoded result. -/
def result0 (V : Valuation τ sig (Elt F)) : Vec F S8x1x2048 .f32 :=
  decoded (transpose S8x256x2048 [0, 2, 1] (state (firstResidual V) (book (V (Proc.devRef .tc main_arg5))) 8).2.1
    transposes_S8x2048x256_S8x256x2048_0_2_1) (V (Proc.devRef .tc main_arg3)) (V (Proc.devRef .tc main_arg4))

/-- The commitment loss. -/
def result1 (V : Valuation τ sig (Elt F)) : Vec F S_ .f32 :=
  Host.divf (state (firstResidual V) (book (V (Proc.devRef .tc main_arg5))) 8).2.2 (constant S_ .f32 0x41000000#32)

theorem tail_reads (V : Valuation τ sig (Elt F)) :
    after (decodeOps (.of main_v27) (.of main_arg3) (.of main_arg4) main_call9) (after midOps8 V) (Proc.devRef .tc main_v29)
        = decoded (transpose S8x256x2048 [0, 2, 1] ((calls 7).v24.ofBuf (V (Proc.devRef .tc (calls 7).v24.ref)))
            transposes_S8x2048x256_S8x256x2048_0_2_1) (V (Proc.devRef .tc main_arg3)) (V (Proc.devRef .tc main_arg4))
      ∧ after (decodeOps (.of main_v27) (.of main_arg3) (.of main_arg4) main_call9) (after midOps8 V) (Proc.devRef .tc main_v28)
        = Host.divf ((calls 7).v20.ofBuf (V (Proc.devRef .tc (calls 7).v20.ref))) (constant S_ .f32 0x41000000#32)
      ∧ SameArgs V (after (decodeOps (.of main_v27) (.of main_arg3) (.of main_arg4) main_call9) (after midOps8 V)) := by
  simp only [decodeOps, padQOps, midOps8, List.cons_append, List.nil_append, calls, Matrix.cons_val]
  refine ⟨?_, ?_, ?_, ?_, ?_, ?_, ?_, ?_⟩ <;> after_reads_simp <;> (try simp only [TRef.ofBuf_toBuf]) <;> rfl

theorem after_append (l l' : List (HloOp τ sig (Elt F))) (V : Valuation τ sig (Elt F)) :
    after (l ++ l') V = after l' (after l V) := by
  induction l generalizing V with
  | nil => rfl
  | cons op l ih => exact ih _

theorem main_after (V : Valuation τ sig (Elt F)) :
    after mainOps V (Proc.devRef .tc main_v29) = result0 V
      ∧ after mainOps V (Proc.devRef .tc main_v28) = result1 V
      ∧ SameArgs V (after mainOps V) := by
  have h7 := ((((((((Inv.start V).step (k := 0)).step (k := 1)).step (k := 2)).step (k := 3)).step (k := 4)).step (k := 5)).step (k := 6))
  have e : ∃ W, Inv V (firstResidual V) 7 W ∧ after mainOps V
      = after (decodeOps (.of main_v27) (.of main_arg3) (.of main_arg4) main_call9) (after midOps8 (after (stageAt 7) W)) :=
    ⟨_, h7, by unfold mainOps; simp only [after_append]; rfl⟩
  obtain ⟨W, hW, e⟩ := e
  obtain ⟨s1, s2, s3, s4⟩ := stage_reads 7 W
  obtain ⟨t1, t2, t3⟩ := tail_reads (after (stageAt 7) W)
  have ha := hW.args.trans s4
  rw [hW.res, hW.book] at s1 s2 s3
  rw [hW.quant] at s2
  rw [hW.loss] at s3
  refine ⟨?_, ?_, ?_⟩
  · rw [e, t1, s2, ha.2.2.2.1, ha.2.2.2.2.1]; rfl
  · rw [e, t2, s3]; rfl
  · rw [e]; exact ha.trans t3

theorem stage_bufs (a0 a1 a2 a3) (φ : fn_stage.Bufs) :
    (stageOps (F := F) a0 a1 a2 a3 φ).Forall fun op => op.bufs ⊆ tcRefs τ sig := by
  simp [stageOps, argminOps, takeOps, whereOps]

theorem main_bufs : (mainOps (F := F)).Forall fun op => op.bufs ⊆ tcRefs τ sig := by
  simp only [mainOps, List.forall_append, stage_bufs, true_and]
  simp [encodeOps, padOps, decodeOps, padQOps, midOps0, midOps1, midOps2, midOps3, midOps4, midOps5, midOps6, midOps7, midOps8]

theorem stage_fresh (a0 a1 a2 a3) (φ : fn_stage.Bufs) :
    (stageOps (F := F) a0 a1 a2 a3 φ).Forall fun op => op.fresh = ∅ := by
  simp only [stageOps, argminOps, takeOps, whereOps, List.cons_append, List.nil_append]
  repeat' apply And.intro
  all_goals rfl

theorem main_fresh : (mainOps (F := F)).Forall fun op => op.fresh = ∅ := by
  simp only [mainOps, List.forall_append, stage_fresh, true_and]
  simp only [encodeOps, padOps, decodeOps, padQOps, midOps0, midOps1, midOps2, midOps3, midOps4, midOps5, midOps6, midOps7, midOps8,
    List.cons_append, List.nil_append]
  repeat' apply And.intro
  all_goals rfl

/-- The reference runs, and ends with its results in its two result buffers and its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD,
        r.2.mem ((d.tc : Thread nD τ).loc main_v29) = result0 (launchContents m d)
        ∧ r.2.mem ((d.tc : Thread nD τ).loc main_v28) = result1 (launchContents m d)
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)) := by
  refine θ_run_mono (run_hlo _ _ main_seq (by decide) (by decide) main_bufs
    (fun op h => List.forall_iff_forall_mem.1 main_fresh op h) m ρ) fun r h d => ?_
  obtain ⟨e1, e2, a0, a1, a2, a3, a4, a5⟩ := main_after (launchContents m d)
  refine ⟨(h d _).trans e1, (h d _).trans e2, (h d _).trans a0, (h d _).trans a1, (h d _).trans a2, (h d _).trans a3,
    (h d _).trans a4, (h d _).trans a5⟩

end Cert.RefIdeal

end
-- ==== Proof.RefLookup.lean ====
module

public import proofs.«01_k».proof.Proof.RefNearest
public import proofs.«01_k».proof.Proof.RefRun
public import proofs.«01_k».proof.Proof.Given

/-! What the reference's lookup reads at an index inside the codebook: that codeword. -/

@[expose] public section

set_option maxRecDepth 65536
set_option synthInstance.maxSize 4096

noncomputable section

namespace Cert.RefIdeal

open Idealize.ShloMosaic Cert.ReferenceIdeal Cert.ReferenceIdeal.Facts₀ Cert.ReferenceIdeal.Facts Cert.Nearest Cert.Given

attribute [local instance] Cert.ReferenceIdeal.Gen.facts

/-- The codewords' own dimension numbers. -/
abbrev words : GatherDims S1024x256 S8x2048x1 S8x2048x256 := gather_S1024x256_S8x2048x1_S8x2048x256_2_0_n_n_0_2_1256

theorem words_start (b : Fin 8) (t : Fin 2048) (d : Fin 256) (c : Fin words.startIndexMap.length) :
    words.siIdx (ix3 b t d) c = ix3 b t 0 := by
  funext a
  refine Fin.ext ?_
  match a with
  | ⟨0, _⟩ => rfl
  | ⟨1, _⟩ => rfl
  | ⟨2, _⟩ => exact Nat.lt_one_iff.1 c.isLt

/-- The gathered array at an entry: the codeword the index names. -/
theorem gather_word (cb : Vec Ideal S1024x256 .f32) (w : IVec S8x2048x1 32) (b : Fin 8) (t : Fin 2048) (d : Fin 256)
    (k : Fin 1024) (hw : w (ix3 b t 0) = BitVec.ofNat 32 k.val) :
    Host.gather words cb w (ix3 b t d) = cb (ix2 k d) := by
  unfold Host.gather
  refine congrArg cb (funext fun a => Fin.ext ?_)
  match a with
  | ⟨0, _⟩ =>
    show words.start (ix3 b t d) w 0 + words.batchCoord (ix3 b t d) 0 + words.offCoord (ix3 b t d) 0 = k.val
    rw [words.batchCoord_eq_zero _ _ (fun h => by cases h),
      words.offCoord_eq_zero _ _ (fun h => ((GatherDims.mem_sKept _ _).mp h).1 (List.mem_singleton.mpr rfl))]
    unfold GatherDims.start
    rw [dif_pos (show (0 : Fin 2) ∈ words.startIndexMap from List.mem_singleton.mpr rfl)]
    have e := congrArg w (words_start b t d ⟨words.startIndexMap.idxOf 0, List.idxOf_lt_length_iff.2
      (show (0 : Fin 2) ∈ words.startIndexMap from List.mem_singleton.mpr rfl)⟩)
    have e' := (congrArg BitVec.toInt (e.trans hw)).trans (toInt_small _ k.isLt.le)
    have e'' := congrArg (fun z : ℤ => min z.toNat 1023) e'
    have hk : min ((k.val : ℤ).toNat) 1023 = k.val := by have := k.isLt; simp; omega
    exact e''.trans hk
  | ⟨1, _⟩ =>
    show words.start (ix3 b t d) w 1 + words.batchCoord (ix3 b t d) 1 + words.offCoord (ix3 b t d) 1 = d.val
    rw [words.batchCoord_eq_zero _ _ (fun h => by cases h)]
    unfold GatherDims.start GatherDims.offCoord
    rw [dif_neg (show (1 : Fin 2) ∉ words.startIndexMap from by decide), dif_pos (show (1 : Fin 2) ∈ words.sKept from by decide)]
    exact Nat.zero_add _

/-- An index inside the codebook is kept. -/
theorem wrapped_small (i : IVec S8x2048 32) (b : Fin 8) (t : Fin 2048) (k : Fin 1024)
    (hi : i (ix2 b t) = BitVec.ofNat 32 k.val) : wrapped i (ix3 b t 0) = BitVec.ofNat 32 k.val := by
  pointwise [wrapped]
  rw [hi]
  have h : IntOp.cmpi .slt (BitVec.ofNat 32 k.val) 0#32 = 0#1 := by
    have : ¬ ((k.val : ℤ) < 0) := by omega
    simp [IntOp.cmpi, BitVec.slt, toInt_small _ k.isLt.le, this]
  rw [h]
  rfl

/-- It is found inside. -/
theorem inside_small (i : IVec S8x2048 32) (b : Fin 8) (t : Fin 2048) (k : Fin 1024)
    (hi : i (ix2 b t) = BitVec.ofNat 32 k.val) : inside (wrapped i) (ix2 b t) = 1#1 := by
  pointwise [inside]
  have h1 : IntOp.cmpi .sge (BitVec.ofNat 32 k.val) 0#32 = 1#1 := by
    simp only [IntOp.cmpi, BitVec.sle, toInt_small _ k.isLt.le]
    simp
  have h2 : IntOp.cmpi .sle (BitVec.ofNat 32 k.val) 1023#32 = 1#1 := by
    have : (k.val : ℤ) ≤ 1023 := by have := k.isLt; omega
    simp only [IntOp.cmpi, BitVec.sle, toInt_small _ k.isLt.le, show (1023#32).toInt = 1023 from by decide, this]
    decide
  have h3 : ∀ x : Fin 1, wrapped i (ix3 b t x) = BitVec.ofNat 32 k.val := fun x => by
    obtain rfl : x = 0 := Subsingleton.elim _ _
    exact wrapped_small i b t k hi
  simp only [h3, h1, h2]
  decide

/-- The codeword looked up at an index inside the codebook. -/
theorem lookup_coe (cb : Vec Ideal S1024x256 .f32) (i : IVec S8x2048 32) (b : Fin 8) (t : Fin 2048) (d : Fin 256) (k : Fin 1024)
    (hi : i (ix2 b t) = BitVec.ofNat 32 k.val) : lookup cb i (ix3 b t d) = cb (ix2 k d) := by
  pointwise [lookup]
  rw [inside_small i b t k hi]
  exact gather_word cb (wrapped i) b t d k (wrapped_small i b t k hi)

end Cert.RefIdeal

end
-- ==== Proof.RefMean.lean ====
module

public import proofs.«01_k».proof.Proof.RefLookup

/-! What the reference's two results hold at an entry when the arguments hold real numbers: the decoded signal, and the mean of
    the squares of what each stage leaves. -/

@[expose] public section

set_option maxRecDepth 65536
set_option synthInstance.maxSize 4096

noncomputable section

namespace Cert.RefIdeal

open Idealize.ShloMosaic Idealize.ShloMosaic.StableHlo Cert.ReferenceIdeal Cert.ReferenceIdeal.Facts₀ Cert.ReferenceIdeal.Facts Cert.Nearest Cert.Given

attribute [local instance] Cert.ReferenceIdeal.Gen.facts

/-- The bit pattern of two. -/
theorem ofBits_two : Ideal.ofBits .f32 0x40000000#32 = ((2 : ℝ) : EReal) := by
  simp [Ideal.ofBits, Ideal.ieee]
  norm_num
  rw [← EReal.coe_mul]
  norm_num

/-- The bit pattern of two to the twenty-second. -/
theorem ofBits_entries : Ideal.ofBits .f32 0x4A800000#32 = ((4194304 : ℝ) : EReal) := by
  simp [Ideal.ofBits, Ideal.ieee]
  norm_num
  rw [← EReal.coe_mul]
  norm_num

/-- The bit pattern of eight. -/
theorem ofBits_eight : Ideal.ofBits .f32 0x41000000#32 = ((8 : ℝ) : EReal) := by
  simp [Ideal.ofBits, Ideal.ieee]
  norm_num
  rw [← EReal.coe_mul]
  norm_num

section Stage

variable (r : Vec Ideal S8x2048x256 .f32) (cb : Vec Ideal S1024x256 .f32) (C : Fin 1024 → Fin 256 → ℝ)
  (R : Fin 8 → Fin 2048 → Fin 256 → ℝ) (hr : ∀ b t d, r (ix3 b t d) = ((R b t d : ℝ) : EReal))
  (hc : ∀ k d, cb (ix2 k d) = ((C k d : ℝ) : EReal))

include hr hc

/-- A squared distance: the row's own squares, and what the kernel compares. -/
theorem dist_coe (b : Fin 8) (t : Fin 2048) (k : Fin 1024) :
    dist r cb (ix3 b t k)
      = ((∑ d, R b t d * R b t d + (∑ d, C k d * C k d - 2 * ∑ d, R b t d * C k d) : ℝ) : EReal) := by
  pointwise [dist]
  simp only [hr, hc, ofBits_two, ← EReal.coe_mul, coe_sum, ← EReal.coe_sub, ← EReal.coe_add]
  congr 1
  rw [Finset.mul_sum, Finset.sum_congr rfl fun d _ => mul_assoc 2 (R b t d) (C k d)]
  ring

/-- The codeword a stage chooses is the nearest one. -/
theorem chosen_coe (b : Fin 8) (t : Fin 2048) (d : Fin 256) :
    chosen r cb (ix3 b t d) = ((C (best C (R b t)) d : ℝ) : EReal) := by
  have e := nearest_coe (dist r cb) _ b t (dist_coe r cb C R hr hc b t)
  rw [amin_add _ (fun k => ∑ d, C k d * C k d - 2 * ∑ d, R b t d * C k d) _ fun k => rfl] at e
  exact (lookup_coe cb (nearest (dist r cb)) b t d _ e).trans (hc _ d)

/-- What a stage leaves. -/
theorem newResidual_coe (b : Fin 8) (t : Fin 2048) (d : Fin 256) :
    newResidual r cb (ix3 b t d) = ((step C (R b t) d : ℝ) : EReal) := by
  show r (ix3 b t d) - chosen r cb (ix3 b t d) = _
  rw [hr, chosen_coe r cb C R hr hc, ← EReal.coe_sub]
  rfl

/-- A stage takes from the residual what it adds to the quantised sum. -/
theorem newQuantized_coe (z : Vec Ideal S8x2048x256 .f32) (Z : ℝ) (b : Fin 8) (t : Fin 2048) (d : Fin 256)
    (hz : z (ix3 b t d) = (Z : EReal)) :
    newQuantized r z cb (ix3 b t d) = ((Z + (R b t d - step C (R b t) d) : ℝ) : EReal) := by
  show z (ix3 b t d) + (r (ix3 b t d) + (chosen r cb (ix3 b t d) - r (ix3 b t d))) = _
  rw [hz, hr, chosen_coe r cb C R hr hc, ← EReal.coe_sub, ← EReal.coe_add, ← EReal.coe_add]
  unfold step
  congr 1
  ring

/-- A stage adds the mean of the squares it leaves to the loss. -/
theorem newLoss_coe (l : Vec Ideal S_ .f32) (L : ℝ) (i : S_.Idx) (hl : l i = (L : EReal)) :
    newLoss r l cb i
      = ((L + (∑ b, ∑ t, ∑ d, step C (R b t) d * step C (R b t) d) / 4194304 : ℝ) : EReal) := by
  pointwise [newLoss]
  simp only [newResidual_coe r cb C R hr hc, ← EReal.coe_mul, coe_sum, hl]
  rw [ofBits_entries, div_coe _ _ (by norm_num), ← EReal.coe_add]

end Stage

/-- The stages, one after another, on real rows. -/
theorem state_coe (r : Vec Ideal S8x2048x256 .f32) (cb : Fin 8 → Vec Ideal S1024x256 .f32) (C : Fin 8 → Fin 1024 → Fin 256 → ℝ)
    (R : Fin 8 → Fin 2048 → Fin 256 → ℝ) (hr : ∀ b t d, r (ix3 b t d) = ((R b t d : ℝ) : EReal))
    (hc : ∀ q k d, cb q (ix2 k d) = ((C q k d : ℝ) : EReal)) (n : ℕ) :
    (∀ b t d, (state r cb n).1 (ix3 b t d) = ((rest C (R b t) n d : ℝ) : EReal))
      ∧ (∀ b t d, (state r cb n).2.1 (ix3 b t d) = ((R b t d - rest C (R b t) n d : ℝ) : EReal))
      ∧ ∀ i, (state r cb n).2.2 i = ((∑ q ∈ Finset.range n,
          (∑ b, ∑ t, ∑ d, rest C (R b t) (q + 1) d * rest C (R b t) (q + 1) d) / 4194304 : ℝ) : EReal) := by
  induction n with
  | zero =>
    refine ⟨hr, fun b t d => ?_, fun i => ?_⟩
    · pointwise [state]
      simp [rest]
    · pointwise [state]
      simp
  | succ n ih =>
    obtain ⟨h1, h2, h3⟩ := ih
    refine ⟨fun b t d => ?_, fun b t d => ?_, fun i => ?_⟩
    · exact newResidual_coe _ _ (C (Fin.ofNat 8 n)) (fun b t => rest C (R b t) n) h1 (hc _) b t d
    · refine (newQuantized_coe _ _ (C (Fin.ofNat 8 n)) (fun b t => rest C (R b t) n) h1 (hc _) _ _ b t d (h2 b t d)).trans ?_
      congr 1
      show _ = R b t d - step _ _ d
      ring
    · refine (newLoss_coe _ _ (C (Fin.ofNat 8 n)) (fun b t => rest C (R b t) n) h1 (hc _) _ _ i (h3 i)).trans ?_
      rw [Finset.sum_range_succ]
      rfl

theorem book_entry (c : Vec Ideal S8x1024x256 .f32) (q : Fin 8) (k : Fin 1024) (d : Fin 256) :
    book c q (ix2 k d) = c (ix3 q k d) := by
  unfold book
  fin_cases q <;> simp only [Matrix.cons_val, Fin.reduceFinMk] <;> pointwise

section Results

variable (N : Numbers)

/-- The encoded signals. -/
theorem encoded_coe (x : Vec Ideal S8x1x2048 .f32) (w : Vec Ideal S256x1x3 .f32) (v : Vec Ideal S256 .f32)
    (hx : ∀ b t, x (ix3 b 0 t) = ((N.X b t : ℝ) : EReal)) (hw : ∀ d j, w (ix3 d 0 j) = ((N.E j d : ℝ) : EReal))
    (hv : ∀ d, v (ix1 d) = ((N.e d : ℝ) : EReal)) (b : Fin 8) (t : Fin 2048) (d : Fin 256) :
    encoded x w v (ix3 b d t) = ((N.row b t d : ℝ) : EReal) := by
  pointwise [encoded, encTap, padX]
  simp only [Finset.univ_unique, Finset.sum_singleton, hx, hw, hv, sitofp_zero, ← apply_dite (fun z : ℝ => (z : EReal)),
    ← EReal.coe_mul, ← EReal.coe_add, Numbers.row, encRow, Fin.sum_univ_three, tap]
  have h1 : padded (N.X b) (t.val + (1 : Fin 3).val) = N.X b t :=
    dif_pos (show 1 ≤ t.val + 1 ∧ t.val + 1 - 1 < 2048 from ⟨by omega, by omega⟩)
  have h2 : padded (N.X b) (t.val + (2 : Fin 3).val) = padded (N.X b) (2 + t.val) := congrArg _ (Nat.add_comm _ 2)
  rw [h1, h2, show t.val + (0 : Fin 3).val = t.val from rfl]
  simp only [padded]
  congr 1
  ring

/-- The decoded signals. -/
theorem decoded_coe (z : Vec Ideal S8x256x2048 .f32) (w : Vec Ideal S1x256x3 .f32) (v : Vec Ideal S1 .f32)
    (hz : ∀ b t d, z (ix3 b d t) = ((N.quant b t d : ℝ) : EReal)) (b : Fin 8) (t : Fin 2048) :
    decoded z w v (ix3 b 0 t) = N.signal w v b t := by
  pointwise [decoded, decTap, padQ]
  simp only [hz, sitofp_zero, Numbers.signal, Numbers.part]
  have hl : (∑ d, w (ix3 0 d 0)
        * if h : 1 ≤ t.val ∧ t.val - 1 < 2048 then ((N.quant b ⟨t.val - 1, h.2⟩ d : ℝ) : EReal) else ((0 : ℝ) : EReal))
      = if h : 1 ≤ t.val then ∑ d, ((N.quant b ⟨t.val - 1, by omega⟩ d : ℝ) : EReal) * w (ix3 0 d 0) else 0 := by
    by_cases h : 1 ≤ t.val
    · rw [dif_pos h]
      exact Finset.sum_congr rfl fun d _ => by rw [dif_pos ⟨h, by omega⟩, mul_comm]
    · rw [dif_neg h]
      exact Finset.sum_eq_zero fun d _ => by rw [dif_neg fun e => h e.1, EReal.coe_zero, mul_zero]
  have hr : (∑ d, w (ix3 0 d 2)
        * if h : 1 ≤ 2 + t.val ∧ 2 + t.val - 1 < 2048 then ((N.quant b ⟨2 + t.val - 1, h.2⟩ d : ℝ) : EReal)
          else ((0 : ℝ) : EReal))
      = if h : t.val < 2047 then ∑ d, ((N.quant b ⟨1 + t.val, by omega⟩ d : ℝ) : EReal) * w (ix3 0 d 2) else 0 := by
    by_cases h : t.val < 2047
    · rw [dif_pos h]
      refine Finset.sum_congr rfl fun d _ => ?_
      rw [dif_pos ⟨by omega, by omega⟩, mul_comm,
        show (⟨2 + t.val - 1, by omega⟩ : Fin 2048) = ⟨1 + t.val, by omega⟩ from Fin.ext (by simp)]
    · rw [dif_neg h]
      exact Finset.sum_eq_zero fun d _ => by rw [dif_neg fun e => h (by omega), EReal.coe_zero, mul_zero]
  rw [hl, hr, add_comm (dite _ _ _) (∑ d, w (ix3 0 d 1) * _), Finset.sum_congr rfl fun d _ => mul_comm (w (ix3 0 d 1)) _]

variable (V : Valuation τ sig (Elt Ideal))
  (h : N.Held (V (Proc.devRef .tc main_arg0)) (V (Proc.devRef .tc main_arg1)) (V (Proc.devRef .tc main_arg2))
    (V (Proc.devRef .tc main_arg5)))

include h

/-- The encoded rows. -/
theorem firstResidual_coe (b : Fin 8) (t : Fin 2048) (d : Fin 256) :
    firstResidual V (ix3 b t d) = ((N.row b t d : ℝ) : EReal) := by
  pointwise [firstResidual]
  exact encoded_coe N _ _ _ h.x h.w h.v b t d

/-- The reference's first result is the decoded signal. -/
theorem result0_entry (b : Fin 8) (t : Fin 2048) :
    result0 V (ix3 b 0 t) = N.signal (V (Proc.devRef .tc main_arg3)) (V (Proc.devRef .tc main_arg4)) b t := by
  unfold result0
  refine decoded_coe N _ _ _ (fun b t d => ?_) b t
  pointwise
  exact (state_coe _ _ N.C N.row (firstResidual_coe N V h) (fun q k d => (book_entry _ q k d).trans (h.c q k d)) 8).2.1 b t d

/-- The reference's second result is the mean of the squares. -/
theorem result1_entry : result1 V = fun _ => ((N.squares / 33554432 : ℝ) : EReal) := by
  funext i
  pointwise [result1]
  rw [(state_coe _ _ N.C N.row (firstResidual_coe N V h) (fun q k d => (book_entry _ q k d).trans (h.c q k d)) 8).2.2 i,
    ofBits_eight, div_coe _ _ (by norm_num)]
  unfold Numbers.squares lossTotal
  rw [Finset.sum_comm, ← Finset.sum_div, div_div]
  norm_num

end Results

end Cert.RefIdeal

end
-- ==== Proof.Finite.lean ====
module

public import proofs.«01_k».proof.Defs
public import proofs.«01_k».proof.Proof.Given
public import Idealize.ShloMosaic.Lib.ReduceAll

/-! What the precondition says: the arrays it names hold real numbers. -/

@[expose] public section

noncomputable section

namespace Cert.Finite

open Idealize.ShloMosaic Cert.Pre_finite Cert.Pre_finite.Facts Cert.Nearest Cert.Given

instance : Subsingleton S_.Idx := ⟨fun _ _ => funext fun a => a.elim0⟩

/-- An extended real whose absolute value is below plus infinity is a real number. -/
theorem coe_of_abs (x : EReal) (h : Ideal.cmp .olt (max x (-x)) ⊤ = 1#1) : x = ((x.toReal : ℝ) : EReal) := by
  have h' : max x (-x) < ⊤ := by
    by_contra n
    simp [Ideal.cmp, n] at h
  rw [max_lt_iff] at h'
  refine (EReal.coe_toReal h'.1.ne fun e => ?_).symm
  rw [e] at h'
  simp at h'

/-- The shape facts the precondition states. -/
theorem facts : Cert.Pre_finite.Facts where
  bcast_S_S8x1x2048 := by decide
  reducesTo_S8x1x2048_S_d0_1_2 := by decide
  h_S_ := by decide
  bcast_S_S256x1x3 := by decide
  reducesTo_S256x1x3_S_d0_1_2 := by decide
  bcast_S_S256 := by decide
  reducesTo_S256_S_d0 := by decide
  bcast_S_S8x1024x256 := by decide
  reducesTo_S8x1024x256_S_d0_1_2 := by decide

variable [hP : Cert.Pre_finite.Facts]

/-- An array that passes the test holds real numbers. -/
theorem coe_of_all {s : Shape} {axes : List (Fin s.rank)} (x : FVec Ideal s .f32) (hb : S_.BroadcastsInDim s ![])
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : x i = (((x i : EReal).toReal : ℝ) : EReal) := by
  have e' : Ideal.cmp .olt (max (x i) (-(x i))) (Ideal.ofBits .f32 0x7F800000#32) = 1#1 :=
    Host.reduce_andi_all _ _ h hu j e i
  rw [ofBits_top] at e'
  exact coe_of_abs _ e'

theorem and_one (a b : BitVec 1) (h : IntOp.andi a b = 1#1) : a = 1#1 ∧ b = 1#1 := by
  revert a b
  decide

/-- The numbers that four arrays hold, when they hold real numbers. -/
def numbers (x : FVec Ideal S8x1x2048 .f32) (w : FVec Ideal S256x1x3 .f32) (v : FVec Ideal S256 .f32)
    (c : FVec Ideal S8x1024x256 .f32) : Numbers where
  X b t := (x (ix3 b 0 t) : EReal).toReal
  E j d := (w (ix3 d 0 j) : EReal).toReal
  e d := (v (ix1 d) : EReal).toReal
  C q k d := (c (ix3 q k d) : EReal).toReal

/-- Arrays that meet the precondition hold those numbers. -/
theorem held (x : FVec Ideal S8x1x2048 .f32) (w : FVec Ideal S256x1x3 .f32) (v : FVec Ideal S256 .f32)
    (w' : FVec Ideal S1x256x3 .f32) (v' : FVec Ideal S1 .f32) (c : FVec Ideal S8x1024x256 .f32)
    (h : fn x w v w' v' c = fun _ => 1#1) : (numbers x w v c).Held x w v c := by
  have h := congrFun h (fun a => a.elim0)
  unfold fn fn_part1 at h
  obtain ⟨h, hc⟩ := and_one _ _ h
  obtain ⟨h, hv⟩ := and_one _ _ h
  obtain ⟨hx, hw⟩ := and_one _ _ h
  exact ⟨fun b t => coe_of_all x _ _ _ _ hx _, fun d j => coe_of_all w _ _ _ _ hw _, fun d => coe_of_all v _ _ _ _ hv _,
    fun q k d => coe_of_all c _ _ _ _ hc _⟩

end Cert.Finite

end
-- ==== Proof.Equation.lean ====
module

public import proofs.«01_k».proof.Proof.KerRun
public import proofs.«01_k».proof.Proof.RefMean
public import proofs.«01_k».proof.Proof.Finite

/-! The two programs' results are the same functions of the numbers their arguments hold. -/

@[expose] public section

set_option maxRecDepth 65536
set_option synthInstance.maxSize 4096

noncomputable section

namespace Cert.Equation

open Idealize.ShloMosaic Idealize.ShloMosaic.TcCoe Idealize.ShloMosaic.StableHlo Idealize.SL.Sem Cert.Given

/-- The kernel's memory and the reference's hold the same arguments on one device. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {N : Numbers}

/-- The reference's arguments hold the numbers the kernel's do. -/
theorem held_reference (h : Cert.KerIdeal.HeldBy m c N) (e : Agree m m' c) :
    N.Held (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg5)) := by
  obtain ⟨e0, e1, e2, -, -, e5⟩ := e
  exact ⟨fun b t => (congrFun e0 _).trans (h.x b t), fun d j => (congrFun e1 _).trans (h.w d j),
    fun d => (congrFun e2 _).trans (h.v d), fun q k d => (congrFun e5 _).trans (h.c q k d)⟩

/-- The decoded signals are equal. -/
theorem signals_equal (h : Cert.KerIdeal.HeldBy m c N) (e : Agree m m' c) :
    Cert.RefIdeal.result0 (launchContents m' c)
      = Cert.KerIdeal.signalOut (Cert.KerIdeal.rowsLeft m c N)
          (m ((c : Thread Cert.KernelIdeal.nD Cert.KernelIdeal.τ).loc Cert.KernelIdeal.main_arg4)) := by
  funext i
  idx_vars i
  obtain rfl : i1 = 0 := Subsingleton.elim _ _
  refine (Cert.RefIdeal.result0_entry N _ (held_reference h e) i0 i2).trans
    (Eq.trans ?_ (Cert.KerIdeal.signalOut_entry _ i0 i2).symm)
  exact congrArg₂ (fun w v => N.signal w v i0 i2) e.2.2.2.1 e.2.2.2.2.1

/-- The losses are equal. -/
theorem losses_equal (h : Cert.KerIdeal.HeldBy m c N) (e : Agree m m' c) :
    Cert.RefIdeal.result1 (launchContents m' c) = Cert.KerIdeal.lossOut (Cert.KerIdeal.sumsLeft N) :=
  (Cert.RefIdeal.result1_entry N _ (held_reference h e)).trans Cert.KerIdeal.lossOut_entry.symm

/-- The kernel over the extended reals equals the reference over them, where the arguments are real numbers. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have held : ∀ c, ∃ N : Numbers, Cert.KerIdeal.HeldBy m c N :=
    fun c => ⟨_, Cert.Finite.held (hP := Cert.Finite.facts) _ _ _ _ _ _ (hpre c)⟩
  choose N hN using held
  refine ⟨fun c => Cert.KerIdeal.signalOut (Cert.KerIdeal.rowsLeft m c (N c))
      (m ((c : Thread Cert.KernelIdeal.nD Cert.KernelIdeal.τ).loc Cert.KernelIdeal.main_arg4)),
    fun c => Cert.KerIdeal.lossOut (Cert.KerIdeal.sumsLeft (N c)), ?_, ?_⟩
  · refine (θ_run Cert.KernelIdeal.defs _ _).mono (fun r h c => ?_) (Cert.KerIdeal.run m g)
    obtain ⟨h0, h1, h2⟩ := h c
    exact ⟨h0.trans (congrArg (fun n => Cert.KerIdeal.signalOut n _) (Cert.KerIdeal.arr_rows (hN c))),
      h1.trans (congrArg Cert.KerIdeal.lossOut (Cert.KerIdeal.arr_sums (hN c))), h2⟩
  · refine (θ_run Cert.ReferenceIdeal.defs _ _).mono (fun r h c => ?_) (Cert.RefIdeal.run m' g')
    obtain ⟨h0, h1, h2⟩ := h c
    exact ⟨h0.trans (signals_equal (hN c) (hagree c)), h1.trans (losses_equal (hN c) (hagree c)), h2⟩

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init
public import Idealize.ShloMosaic.Lib.Quiescent

/-! The claims, assembled: the three frames, the idealization, and the equation of the two results. -/

@[expose] public section

noncomputable section

namespace Cert.Proof

open Idealize.ShloMosaic Idealize.SL.Sem

/-- The reference runs, leaves its arguments and ends with every counter at zero: it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.RefIdeal.run m ρ)

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    Cert.Equation.algebraic⟩

end Cert.Proof

end
